-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S4x2048x1536 : Shape := ⟨3, ![4, 2048, 1536]⟩
abbrev S4x16384x768 : Shape := ⟨3, ![4, 16384, 768]⟩
abbrev S4x2048 : Shape := ⟨2, ![4, 2048]⟩
abbrev S16x1536x768 : Shape := ⟨3, ![16, 1536, 768]⟩
abbrev S768 : Shape := ⟨1, ![768]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048x1536 .bf16) (main_arg1 : IVec S4x16384x768 8) (main_arg2 : FVec F S4x2048 .f32) (main_arg3 : FVec F S16x1536x768 .fp8e4m3) (main_arg4 : FVec F S768 .f32) : IVec S_ 1 :=
  let main_cst : FVec F S_ .f32 := constant S_ .f32 0x00000000#32
  let main_v0 : FVec F S4x2048 .f32 := broadcastInDim S4x2048 ![] bcast_S_S4x2048 main_cst
  let main_v1 : IVec S4x2048 1 := cmpf .oge main_arg2 main_v0
  let main_cst_0 : FVec F S_ .f32 := constant S_ .f32 0x7F800000#32
  let main_v2 : FVec F S4x2048 .f32 := broadcastInDim S4x2048 ![] bcast_S_S4x2048 main_cst_0
  let main_v3 : IVec S4x2048 1 := cmpf .olt main_arg2 main_v2
  let main_v4 : IVec S4x2048 1 := andi main_v1 main_v3
  let main_c : IVec S_ 1 := constantI S_ 1 1#1
  let main_v5 : IVec S_ 1 := (fun x v => Host.reduce IntOp.andi x v reducesTo_S4x2048_S_d0_1 h_S_) main_v4 main_c
  main_v5
-- ==== Kernel.lean ====
abbrev S4x2048x1536 : Shape := ⟨3, ![4, 2048, 1536]⟩
abbrev S4x16384x768 : Shape := ⟨3, ![4, 16384, 768]⟩
abbrev S4x2048 : Shape := ⟨2, ![4, 2048]⟩
abbrev S16x1536x768 : Shape := ⟨3, ![16, 1536, 768]⟩
abbrev S768 : Shape := ⟨1, ![768]⟩
abbrev S_ : Shape := ⟨0, ![]⟩
abbrev S4x1 : Shape := ⟨2, ![4, 1]⟩
abbrev S4x2047 : Shape := ⟨2, ![4, 2047]⟩
abbrev S1x4x2048 : Shape := ⟨3, ![1, 4, 2048]⟩
abbrev S3x4x2048 : Shape := ⟨3, ![3, 4, 2048]⟩
abbrev S3x8192 : Shape := ⟨2, ![3, 8192]⟩
abbrev S8192x3 : Shape := ⟨2, ![8192, 3]⟩
abbrev S1x768 : Shape := ⟨2, ![1, 768]⟩
abbrev S16x8192x768 : Shape := ⟨3, ![16, 8192, 768]⟩
abbrev S1536x8192 : Shape := ⟨2, ![1536, 8192]⟩
abbrev S1x2048x768 : Shape := ⟨3, ![1, 2048, 768]⟩
abbrev S1x32x768 : Shape := ⟨3, ![1, 32, 768]⟩
abbrev S1x256x1536 : Shape := ⟨3, ![1, 256, 1536]⟩
abbrev S256x3 : Shape := ⟨2, ![256, 3]⟩
abbrev S16x256x768 : Shape := ⟨3, ![16, 256, 768]⟩
abbrev S1536x256 : Shape := ⟨2, ![1536, 256]⟩
abbrev S6x528x128 : Shape := ⟨3, ![6, 528, 128]⟩
abbrev S256x1536 : Shape := ⟨2, ![256, 1536]⟩
abbrev S32x768 : Shape := ⟨2, ![32, 768]⟩
abbrev S8x768 : Shape := ⟨2, ![8, 768]⟩
abbrev S2048x768 : Shape := ⟨2, ![2048, 768]⟩
abbrev S512x768 : Shape := ⟨2, ![512, 768]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S32x128 : Shape := ⟨2, ![32, 128]⟩
abbrev S1x32x128 : Shape := ⟨3, ![1, 32, 128]⟩
abbrev S256x1 : Shape := ⟨2, ![256, 1]⟩
abbrev S1x256x768 : Shape := ⟨3, ![1, 256, 768]⟩
abbrev S256x768 : Shape := ⟨2, ![256, 768]⟩
abbrev S1x1536x768 : Shape := ⟨3, ![1, 1536, 768]⟩
abbrev S1536x768 : Shape := ⟨2, ![1536, 768]⟩
abbrev S1x8192x256 : Shape := ⟨3, ![1, 8192, 256]⟩
abbrev S1x1536x256 : Shape := ⟨3, ![1, 1536, 256]⟩
abbrev S1x1024 : Shape := ⟨2, ![1, 1024]⟩
abbrev S1536x1024 : Shape := ⟨2, ![1536, 1024]⟩
abbrev S1x1024x256 : Shape := ⟨3, ![1, 1024, 256]⟩
abbrev S1024x256 : Shape := ⟨2, ![1024, 256]⟩

abbrev nBuf : Space → Nat
  | .hbm => 22
  | .vmem => 26
  | .smem => 0
  | _ => 0

abbrev bufTy : (tb : Table) → Fin (tcTables nBuf tb) → BufTy
  | .hbm, ⟨0, _⟩ => ⟨S4x2048x1536, .bf16⟩
  | .hbm, ⟨1, _⟩ => ⟨S4x16384x768, .i8⟩
  | .hbm, ⟨2, _⟩ => ⟨S4x2048, .f32⟩
  | .hbm, ⟨3, _⟩ => ⟨S16x1536x768, .fp8e4m3⟩
  | .hbm, ⟨4, _⟩ => ⟨S768, .f32⟩
  | .hbm, ⟨5, _⟩ => ⟨S_, .f32⟩
  | .hbm, ⟨6, _⟩ => ⟨S4x1, .f32⟩
  | .hbm, ⟨7, _⟩ => ⟨S4x2047, .f32⟩
  | .hbm, ⟨8, _⟩ => ⟨S4x2048, .f32⟩
  | .hbm, ⟨9, _⟩ => ⟨S4x2047, .f32⟩
  | .hbm, ⟨10, _⟩ => ⟨S4x2048, .f32⟩
  | .hbm, ⟨11, _⟩ => ⟨S1x4x2048, .f32⟩
  | .hbm, ⟨12, _⟩ => ⟨S1x4x2048, .f32⟩
  | .hbm, ⟨13, _⟩ => ⟨S1x4x2048, .f32⟩
  | .hbm, ⟨14, _⟩ => ⟨S3x4x2048, .f32⟩
  | .hbm, ⟨15, _⟩ => ⟨S3x8192, .f32⟩
  | .hbm, ⟨16, _⟩ => ⟨S8192x3, .f32⟩
  | .hbm, ⟨17, _⟩ => ⟨S1x768, .f32⟩
  | .hbm, ⟨18, _⟩ => ⟨S4x2048x1536, .bf16⟩
  | .hbm, ⟨19, _⟩ => ⟨S16x8192x768, .fp8e5m2⟩
  | .hbm, ⟨20, _⟩ => ⟨S1536x8192, .bf16⟩
  | .hbm, ⟨21, _⟩ => ⟨S16x1536x768, .f32⟩
  | .local _ .vmem, ⟨0, _⟩ => ⟨S1x2048x768, .i8⟩
  | .local _ .vmem, ⟨1, _⟩ => ⟨S1x2048x768, .i8⟩
  | .local _ .vmem, ⟨2, _⟩ => ⟨S1x32x768, .i8⟩
  | .local _ .vmem, ⟨3, _⟩ => ⟨S1x32x768, .i8⟩
  | .local _ .vmem, ⟨4, _⟩ => ⟨S1x32x768, .i8⟩
  | .local _ .vmem, ⟨5, _⟩ => ⟨S1x32x768, .i8⟩
  | .local _ .vmem, ⟨6, _⟩ => ⟨S1x256x1536, .bf16⟩
  | .local _ .vmem, ⟨7, _⟩ => ⟨S1x256x1536, .bf16⟩
  | .local _ .vmem, ⟨8, _⟩ => ⟨S256x3, .f32⟩
  | .local _ .vmem, ⟨9, _⟩ => ⟨S256x3, .f32⟩
  | .local _ .vmem, ⟨10, _⟩ => ⟨S1x768, .f32⟩
  | .local _ .vmem, ⟨11, _⟩ => ⟨S16x1536x768, .fp8e4m3⟩
  | .local _ .vmem, ⟨12, _⟩ => ⟨S1x256x1536, .bf16⟩
  | .local _ .vmem, ⟨13, _⟩ => ⟨S1x256x1536, .bf16⟩
  | .local _ .vmem, ⟨14, _⟩ => ⟨S16x256x768, .fp8e5m2⟩
  | .local _ .vmem, ⟨15, _⟩ => ⟨S16x256x768, .fp8e5m2⟩
  | .local _ .vmem, ⟨16, _⟩ => ⟨S1536x256, .bf16⟩
  | .local _ .vmem, ⟨17, _⟩ => ⟨S1536x256, .bf16⟩
  | .local _ .vmem, ⟨18, _⟩ => ⟨S6x528x128, .i32⟩
  | .local _ .vmem, ⟨19, _⟩ => ⟨S256x1536, .f32⟩
  | .local _ .vmem, ⟨20, _⟩ => ⟨S1536x8192, .bf16⟩
  | .local _ .vmem, ⟨21, _⟩ => ⟨S3x8192, .f32⟩
  | .local _ .vmem, ⟨22, _⟩ => ⟨S1x8192x256, .fp8e5m2⟩
  | .local _ .vmem, ⟨23, _⟩ => ⟨S1x8192x256, .fp8e5m2⟩
  | .local _ .vmem, ⟨24, _⟩ => ⟨S1x1536x256, .f32⟩
  | .local _ .vmem, ⟨25, _⟩ => ⟨S1x1536x256, .f32⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x2048x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1536x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x256x768 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 3], ![false, false]⟩

@[reducible] def k1_t1_loop : Scf.Loop 32 :=
  let c0_i32_2 : BitVec 32 := 0#32
  let c8_i32 : BitVec 32 := 8#32
  let v6 : BitVec 32 := Scalar.addi c0_i32_2 c8_i32
  let c1_i32_3 : BitVec 32 := 1#32
  ⟨c0_i32_2, v6, c1_i32_3⟩
def k1_off1 (i : grid1.Coords) (k1_t1 : Fin k1_t1_loop.trips) : Fin 2 → Nat :=
  let arg0 : BitVec 32 := BitVec.ofNat 32 (i 0).val
  let c4_i32 : BitVec 32 := 4#32
  let v0 : BitVec 1 := Scalar.cmpi .slt arg0 c4_i32
  let c0_i32 : BitVec 32 := 0#32
  let c12_i32 : BitVec 32 := 12#32
  let v1 : BitVec 1 := Scalar.cmpi .slt arg0 c12_i32
  let c1_i32 : BitVec 32 := 1#32
  let c2_i32 : BitVec 32 := 2#32
  let v2 : BitVec 32 := Scalar.select v1 c1_i32 c2_i32
  let v3 : BitVec 32 := Scalar.select v0 c0_i32 v2
  let v8 : Index := Scalar.indexCast v3
  let c0_i32_2 : BitVec 32 := 0#32
  let c1_i32_3 : BitVec 32 := 1#32
  let arg6 : BitVec 32 := Scf.iv c0_i32_2 c1_i32_3 k1_t1
  let c1024_i32 : BitVec 32 := 1024#32
  let v7 : BitVec 32 := Scalar.muli arg6 c1024_i32
  let v9 : Index := Scalar.indexCast v7
  ![v8.toNat, v9.toNat]
def k1_off2 (k1_t1 : Fin k1_t1_loop.trips) : Fin 2 → Nat :=
  let c0_6 : Index := 0#32
  let c0_i32_2 : BitVec 32 := 0#32
  let c1_i32_3 : BitVec 32 := 1#32
  let arg6 : BitVec 32 := Scf.iv c0_i32_2 c1_i32_3 k1_t1
  let c1024_i32_5 : BitVec 32 := 1024#32
  let v13 : BitVec 32 := Scalar.muli arg6 c1024_i32_5
  let v14 : Index := Scalar.indexCast v13
  ![0, v14.toNat]
def k1_off3 (k1_t1 : Fin k1_t1_loop.trips) : Fin 3 → Nat :=
  let c0_11 : Index := 0#32
  let c0_i32_2 : BitVec 32 := 0#32
  let c1_i32_3 : BitVec 32 := 1#32
  let arg6 : BitVec 32 := Scf.iv c0_i32_2 c1_i32_3 k1_t1
  let c1024_i32_10 : BitVec 32 := 1024#32
  let v21 : BitVec 32 := Scalar.muli arg6 c1024_i32_10
  let v22 : Index := Scalar.indexCast v21
  let c0_12 : Index := 0#32
  ![0, v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1536x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S3x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x8192x256 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1536x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x2048x1536 : Shape := ⟨3, ![4, 2048, 1536]⟩
abbrev S4x16384x768 : Shape := ⟨3, ![4, 16384, 768]⟩
abbrev S4x2048 : Shape := ⟨2, ![4, 2048]⟩
abbrev S16x1536x768 : Shape := ⟨3, ![16, 1536, 768]⟩
abbrev S768 : Shape := ⟨1, ![768]⟩
abbrev S4x2048x8x768 : Shape := ⟨4, ![4, 2048, 8, 768]⟩
abbrev S1x1x768 : Shape := ⟨3, ![1, 1, 768]⟩
abbrev S4x1536x768 : Shape := ⟨3, ![4, 1536, 768]⟩
abbrev S8x1536x768 : Shape := ⟨3, ![8, 1536, 768]⟩
abbrev S4x2047x4x768 : Shape := ⟨4, ![4, 2047, 4, 768]⟩
abbrev S4x2047x1536 : Shape := ⟨3, ![4, 2047, 1536]⟩
abbrev S4x2047 : Shape := ⟨2, ![4, 2047]⟩
abbrev S4x2047x1 : Shape := ⟨3, ![4, 2047, 1]⟩
abbrev S4x2048x1 : Shape := ⟨3, ![4, 2048, 1]⟩
abbrev S_ : Shape := ⟨0, ![]⟩
abbrev S1 : Shape := ⟨1, ![1]⟩
abbrev S4x2048x1x1 : Shape := ⟨4, ![4, 2048, 1, 1]⟩
abbrev S4x768x1536 : Shape := ⟨3, ![4, 768, 1536]⟩
abbrev S8x768x1536 : Shape := ⟨3, ![8, 768, 1536]⟩

abbrev nBuf : Space → Nat
  | .hbm => 53
  | .vmem => 4
  | .smem => 0
  | _ => 0

abbrev bufTy : (tb : Table) → Fin (tcTables nBuf tb) → BufTy
  | .hbm, ⟨0, _⟩ => ⟨S4x2048x1536, .bf16⟩
  | .hbm, ⟨1, _⟩ => ⟨S4x16384x768, .i8⟩
  | .hbm, ⟨2, _⟩ => ⟨S4x2048, .f32⟩
  | .hbm, ⟨3, _⟩ => ⟨S16x1536x768, .fp8e4m3⟩
  | .hbm, ⟨4, _⟩ => ⟨S768, .f32⟩
  | .hbm, ⟨5, _⟩ => ⟨S4x16384x768, .bf16⟩
  | .hbm, ⟨6, _⟩ => ⟨S16x1536x768, .bf16⟩
  | .hbm, ⟨7, _⟩ => ⟨S4x2048x8x768, .bf16⟩
  | .hbm, ⟨8, _⟩ => ⟨S768, .bf16⟩
  | .hbm, ⟨9, _⟩ => ⟨S1x1x768, .bf16⟩
  | .hbm, ⟨10, _⟩ => ⟨S16x1536x768, .bf16⟩
  | .hbm, ⟨11, _⟩ => ⟨S16x1536x768, .bf16⟩
  | .hbm, ⟨12, _⟩ => ⟨S4x1536x768, .bf16⟩
  | .hbm, ⟨13, _⟩ => ⟨S8x1536x768, .bf16⟩
  | .hbm, ⟨14, _⟩ => ⟨S4x1536x768, .bf16⟩
  | .hbm, ⟨15, _⟩ => ⟨S4x2047x4x768, .bf16⟩
  | .hbm, ⟨16, _⟩ => ⟨S4x2047x1536, .f32⟩
  | .hbm, ⟨17, _⟩ => ⟨S4x2047, .f32⟩
  | .hbm, ⟨18, _⟩ => ⟨S4x2047x1, .f32⟩
  | .hbm, ⟨19, _⟩ => ⟨S4x2047x1536, .f32⟩
  | .hbm, ⟨20, _⟩ => ⟨S4x2047x1536, .f32⟩
  | .hbm, ⟨21, _⟩ => ⟨S4x2048x1536, .f32⟩
  | .hbm, ⟨22, _⟩ => ⟨S4x2048x1, .f32⟩
  | .hbm, ⟨23, _⟩ => ⟨S4x2048x1536, .f32⟩
  | .hbm, ⟨24, _⟩ => ⟨S4x2048x1536, .f32⟩
  | .hbm, ⟨25, _⟩ => ⟨S4x2047x4x768, .bf16⟩
  | .hbm, ⟨26, _⟩ => ⟨S4x2047x1536, .f32⟩
  | .hbm, ⟨27, _⟩ => ⟨S4x2047, .f32⟩
  | .hbm, ⟨28, _⟩ => ⟨S4x2047x1, .f32⟩
  | .hbm, ⟨29, _⟩ => ⟨S4x2047x1536, .f32⟩
  | .hbm, ⟨30, _⟩ => ⟨S4x2047x1536, .f32⟩
  | .hbm, ⟨31, _⟩ => ⟨S_, .i32⟩
  | .hbm, ⟨32, _⟩ => ⟨S1, .i32⟩
  | .hbm, ⟨33, _⟩ => ⟨S4x2048x1536, .f32⟩
  | .hbm, ⟨34, _⟩ => ⟨S_, .i32⟩
  | .hbm, ⟨35, _⟩ => ⟨S1, .i32⟩
  | .hbm, ⟨36, _⟩ => ⟨S4x2048x1536, .f32⟩
  | .hbm, ⟨37, _⟩ => ⟨S4x2048x1536, .bf16⟩
  | .hbm, ⟨38, _⟩ => ⟨S4x2048, .bf16⟩
  | .hbm, ⟨39, _⟩ => ⟨S4x2048x1x1, .bf16⟩
  | .hbm, ⟨40, _⟩ => ⟨S4x2048x8x768, .bf16⟩
  | .hbm, ⟨41, _⟩ => ⟨S4x2048x8x768, .bf16⟩
  | .hbm, ⟨42, _⟩ => ⟨S4x2047x1536, .bf16⟩
  | .hbm, ⟨43, _⟩ => ⟨S4x2047x4x768, .bf16⟩
  | .hbm, ⟨44, _⟩ => ⟨S4x768x1536, .f32⟩
  | .hbm, ⟨45, _⟩ => ⟨S4x1536x768, .f32⟩
  | .hbm, ⟨46, _⟩ => ⟨S8x768x1536, .f32⟩
  | .hbm, ⟨47, _⟩ => ⟨S8x1536x768, .f32⟩
  | .hbm, ⟨48, _⟩ => ⟨S4x2047x1536, .bf16⟩
  | .hbm, ⟨49, _⟩ => ⟨S4x2047x4x768, .bf16⟩
  | .hbm, ⟨50, _⟩ => ⟨S4x768x1536, .f32⟩
  | .hbm, ⟨51, _⟩ => ⟨S4x1536x768, .f32⟩
  | .hbm, ⟨52, _⟩ => ⟨S16x1536x768, .f32⟩
  | .local _ .vmem, ⟨0, _⟩ => ⟨S4x16384x768, .i8⟩
  | .local _ .vmem, ⟨1, _⟩ => ⟨S16x1536x768, .fp8e4m3⟩
  | .local _ .vmem, ⟨2, _⟩ => ⟨S4x16384x768, .bf16⟩
  | .local _ .vmem, ⟨3, _⟩ => ⟨S16x1536x768, .bf16⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x16384x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Bytes.lean ====
/-
  The byte transpose of the first pallas_call, at one lane: four 32-bit words go in, and word `m` that comes out holds byte `m` of
  each of the four. Nothing here mentions the kernel's program.
-/
module

public import Idealize.ShloMosaic.Lib.BitcastFour
public import Idealize.ShloMosaic.PureOps

@[expose] public section

namespace Cert.Bytes

open Idealize.ShloMosaic

/-- Even bytes of two words, interleaved: bytes 0 and 2 of `a` in places 0 and 2, those of `b` in places 1 and 3. -/
def evens (a b : BitVec 32) : BitVec 32 := (a &&& 16711935#32) ||| ((b &&& 16711935#32) <<< 8)

/-- Odd bytes of two words, interleaved. -/
def odds (a b : BitVec 32) : BitVec 32 := ((a >>> 8) &&& 16711935#32) ||| (b &&& 4278255360#32)

/-- The low halves of two words, joined. -/
def lows (a b : BitVec 32) : BitVec 32 := (a &&& 65535#32) ||| (b <<< 16)

/-- The high halves of two words, joined. -/
def highs (a b : BitVec 32) : BitVec 32 := (a >>> 16) ||| (b &&& 4294901760#32)

/-- Word `m` of the transpose of four words. -/
def plane (m : Fin 4) (a0 a1 a2 a3 : BitVec 32) : BitVec 32 :=
  match m with
  | 0 => lows (evens a0 a1) (evens a2 a3)
  | 1 => lows (odds a0 a1) (odds a2 a3)
  | 2 => highs (evens a0 a1) (evens a2 a3)
  | 3 => highs (odds a0 a1) (odds a2 a3)

/-- Byte `m` of a word. -/
def byteOf (m : ℕ) (a : BitVec 32) : BitVec 8 := a.extractLsb' (8 * m) 8

theorem mask_even (i : ℕ) (h : i < 32) : (16711935#32).getLsbD i = decide (i / 8 % 2 = 0) := by
  revert i; decide
theorem mask_odd (i : ℕ) (h : i < 32) : (4278255360#32).getLsbD i = decide (i / 8 % 2 = 1) := by
  revert i; decide
theorem mask_low (i : ℕ) (h : i < 32) : (65535#32).getLsbD i = decide (i < 16) := by
  revert i; decide
theorem mask_high (i : ℕ) (h : i < 32) : (4294901760#32).getLsbD i = decide (16 ≤ i) := by
  revert i; decide

theorem evens_getLsbD (a b : BitVec 32) (i : ℕ) (h : i < 32) :
    (evens a b).getLsbD i = if i / 8 % 2 = 0 then a.getLsbD i else b.getLsbD (i - 8) := by
  unfold evens
  rw [BitVec.getLsbD_or, BitVec.getLsbD_and, BitVec.getLsbD_shiftLeft, BitVec.getLsbD_and, mask_even i h]
  by_cases c : i / 8 % 2 = 0
  · rw [if_pos c]
    by_cases d : i < 8
    · simp [c, d]
    · rw [mask_even (i - 8) (by omega)]
      have : ¬ (i - 8) / 8 % 2 = 0 := by omega
      simp [c, this]
  · rw [if_neg c, mask_even (i - 8) (by omega)]
    have e : (i - 8) / 8 % 2 = 0 := by omega
    have d : ¬ i < 8 := by omega
    simp [c, e, d, h]

theorem odds_getLsbD (a b : BitVec 32) (i : ℕ) (h : i < 32) :
    (odds a b).getLsbD i = if i / 8 % 2 = 0 then a.getLsbD (i + 8) else b.getLsbD i := by
  unfold odds
  rw [BitVec.getLsbD_or, BitVec.getLsbD_and, BitVec.getLsbD_ushiftRight, BitVec.getLsbD_and, mask_even i h, mask_odd i h]
  by_cases c : i / 8 % 2 = 0
  · have : ¬ i / 8 % 2 = 1 := by omega
    rw [if_pos c]; simp [c, Nat.add_comm]
  · have : i / 8 % 2 = 1 := by omega
    rw [if_neg c]; simp [this]

theorem lows_getLsbD (a b : BitVec 32) (i : ℕ) (h : i < 32) :
    (lows a b).getLsbD i = if i < 16 then a.getLsbD i else b.getLsbD (i - 16) := by
  unfold lows
  rw [BitVec.getLsbD_or, BitVec.getLsbD_and, BitVec.getLsbD_shiftLeft, mask_low i h]
  by_cases c : i < 16
  · simp [c]
  · simp [c, h]

theorem highs_getLsbD (a b : BitVec 32) (i : ℕ) (h : i < 32) :
    (highs a b).getLsbD i = if i < 16 then a.getLsbD (i + 16) else b.getLsbD i := by
  unfold highs
  rw [BitVec.getLsbD_or, BitVec.getLsbD_and, BitVec.getLsbD_ushiftRight, mask_high i h]
  by_cases c : i < 16
  · simp [c, Nat.add_comm]
  · have d : 16 ≤ i := by omega
    have e : a.getLsbD (16 + i) = false := BitVec.getLsbD_of_ge a _ (by omega)
    simp [c, d, e]

/-- One of four words. -/
def pick (j : ℕ) (a0 a1 a2 a3 : BitVec 32) : BitVec 32 :=
  if j = 0 then a0 else if j = 1 then a1 else if j = 2 then a2 else a3

/-- THE TRANSPOSE: byte `j` of word `m` is byte `m` of word `j`. -/
theorem plane_byte (m : Fin 4) (a0 a1 a2 a3 : BitVec 32) (j : ℕ) (hj : j < 4) :
    byteOf j (plane m a0 a1 a2 a3) = byteOf m (pick j a0 a1 a2 a3) := by
  apply BitVec.eq_of_getLsbD_eq
  intro b hb
  unfold byteOf
  rw [BitVec.getLsbD_extractLsb', BitVec.getLsbD_extractLsb']
  simp only [hb, decide_true, Bool.true_and]
  have hcase : ∀ j : Fin 4, (plane m a0 a1 a2 a3).getLsbD (8 * j.val + b) = (pick j.val a0 a1 a2 a3).getLsbD (8 * m.val + b) := by
    intro j
    have hjb : 8 * j.val + b < 32 := by omega
    have e0 : (8 * 0 + b) / 8 % 2 = 0 := by omega
    fin_cases m <;> fin_cases j <;>
      simp only [plane, pick, Fin.zero_eta, Fin.mk_one, Fin.reduceFinMk, Fin.val_zero, Fin.val_one, Fin.val_two, Fin.reduceEq, if_true, if_false,
        Fin.isValue, Nat.reduceMul, Nat.reduceEqDiff, one_ne_zero, Fin.coe_ofNat_eq_mod, Nat.reduceMod, Nat.zero_mod] <;>
      (first | rw [lows_getLsbD _ _ _ (by omega)] | rw [highs_getLsbD _ _ _ (by omega)]) <;>
      split <;>
      (first | rw [evens_getLsbD _ _ _ (by omega)] | rw [odds_getLsbD _ _ _ (by omega)]) <;>
      split <;> (first | omega | rfl | (congr 1; omega))
  exact hcase ⟨j, hj⟩

end Cert.Bytes

end
-- ==== Proof.Blocks.lean ====
/-
  The stores of the first pallas_call into its code planes, written once for every block: tap group, slab of rows, channel column and
  plane. The run's own list of stores is shown to be these.
-/
module

public import proofs.«01_k».proof.Proof.Gen.KernelIdeal.Frame
public import proofs.«01_k».proof.Proof.Bytes
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- Even bytes of two word vectors, interleaved. -/
def evensV (a b : IVec S8x128 32) : IVec S8x128 32 :=
  ori (andi a (broadcast S8x128 16711935#32)) (shli (andi b (broadcast S8x128 16711935#32)) (broadcast S8x128 8#32))

/-- Odd bytes of two word vectors, interleaved. -/
def oddsV (a b : IVec S8x128 32) : IVec S8x128 32 :=
  ori (andi (shrui a (broadcast S8x128 8#32)) (broadcast S8x128 16711935#32)) (andi b (broadcast S8x128 4278255360#32))

/-- Low halves of two word vectors, joined. -/
def lowsV (a b : IVec S8x128 32) : IVec S8x128 32 :=
  ori (andi a (broadcast S8x128 65535#32)) (shli b (broadcast S8x128 16#32))

/-- High halves of two word vectors, joined. -/
def highsV (a b : IVec S8x128 32) : IVec S8x128 32 :=
  ori (shrui a (broadcast S8x128 16#32)) (andi b (broadcast S8x128 4294901760#32))

/-- Word vector `m` of the byte transpose of four. -/
def planeV (m : ℕ) (a0 a1 a2 a3 : IVec S8x128 32) : IVec S8x128 32 :=
  match m with
  | 0 => lowsV (evensV a0 a1) (evensV a2 a3)
  | 1 => lowsV (oddsV a0 a1) (oddsV a2 a3)
  | 2 => highsV (evensV a0 a1) (evensV a2 a3)
  | _ => highsV (oddsV a0 a1) (oddsV a2 a3)

/-- The codes of one stored block: plane `m` of the byte transpose of the four loads, each word read as four codes. -/
def blockPay (m : ℕ) (w0 w1 w2 w3 : Vec F S1x8x128 .i32) : FVec F S1x32x128 .fp8e5m2 :=
  shapeCast S1x32x128
    (bitcastToFloat .fp8e5m2
      (bitcast S32x128 8
        (planeV m (shapeCast S8x128 w0 shapeCasts_S1x8x128_S8x128) (shapeCast S8x128 w1 shapeCasts_S1x8x128_S8x128)
          (shapeCast S8x128 w2 shapeCasts_S1x8x128_S8x128) (shapeCast S8x128 w3 shapeCasts_S1x8x128_S8x128))
        bitcasts_S8x128_w32_S32x128_w8)) shapeCasts_S32x128_S1x32x128

/-- Eight words, every eighth row from `row`, of channel column `q` of the word buffer. -/
theorem inb_load (q row : ℕ) (hq : q < 6) (hr : row < 472) :
    ∀ a, S1x8x128.size a = 0 ∨ ![q, row, 0] a + ![1, 8, 1] a * (S1x8x128.size a - 1) < S6x528x128.size a := by
  intro a; right
  match a with
  | 0 => simpa using hq
  | 1 => show row + 8 * (8 - 1) < 528; omega
  | 2 => show 0 + 1 * (128 - 1) < 128; omega

/-- That load, after the stores `L`. -/
def load (v : View sig .tc .vmem S6x528x128 .i32) (L : List (View.Piece (Elt F) S6x528x128 .i32)) (q row : ℕ) (hq : q < 6)
    (hr : row < 472) : Vec F S1x8x128 .i32 :=
  v.readCov L { off := ![q, row, 0], size := S1x8x128.size, stride := ![1, 8, 1], inb := inb_load q row hq hr }

theorem inb_block (n : ℕ) (hn : n < 768) :
    ∀ a, ![4 * (n / 192) + n % 4, 32 * (n / 24 % 8), 128 * (n / 4 % 6)] a + S1x32x128.size a ≤ S16x256x768.size a := by
  intro a
  match a with
  | 0 => show 4 * (n / 192) + n % 4 + 1 ≤ 16; omega
  | 1 => show 32 * (n / 24 % 8) + 32 ≤ 256; omega
  | 2 => show 128 * (n / 4 % 6) + 128 ≤ 768; omega

/-- Store number `n`: tap group `n / 192`, slab `n / 24 % 8`, channel column `n / 4 % 6`, plane `n % 4`. -/
def block (v : View sig .tc .vmem S6x528x128 .i32) (L : List (View.Piece (Elt F) S6x528x128 .i32)) (n : ℕ) (hn : n < 768) :
    View.Piece (Elt F) S16x256x768 .fp8e5m2 :=
  ⟨Rect.unit ![4 * (n / 192) + n % 4, 32 * (n / 24 % 8), 128 * (n / 4 % 6)] S1x32x128.size (inb_block n hn),
    blockPay (n % 4)
      (load v L (n / 4 % 6) (7 + n / 192 + 64 * (n / 24 % 8)) (by omega) (by omega))
      (load v L (n / 4 % 6) (9 + n / 192 + 64 * (n / 24 % 8)) (by omega) (by omega))
      (load v L (n / 4 % 6) (11 + n / 192 + 64 * (n / 24 % 8)) (by omega) (by omega))
      (load v L (n / 4 % 6) (13 + n / 192 + 64 * (n / 24 % 8)) (by omega) (by omega))⟩

/-- The first `n` stores, the last one first. -/
def blocks (v : View sig .tc .vmem S6x528x128 .i32) (L : List (View.Piece (Elt F) S6x528x128 .i32)) (n : ℕ) :
    n ≤ 768 → List (View.Piece (Elt F) S16x256x768 .fp8e5m2) :=
  @Nat.rec (fun n => n ≤ 768 → List (View.Piece (Elt F) S16x256x768 .fp8e5m2)) (fun _ => [])
    (fun n ih h => block v L n h :: ih (Nat.le_of_succ_le h)) n

/-- Every member of the list is one of the stores. -/
theorem mem_blocks (v : View sig .tc .vmem S6x528x128 .i32) (L : List (View.Piece (Elt F) S6x528x128 .i32)) :
    ∀ (n : ℕ) (h : n ≤ 768), ∀ p ∈ blocks v L n h, ∃ (k : ℕ) (hk : k < 768), p = block v L k hk
  | 0, _, p, hp => absurd hp List.not_mem_nil
  | n + 1, h, p, hp => by
      rcases List.mem_cons.mp hp with rfl | hp
      · exact ⟨n, h, rfl⟩
      · exact mem_blocks v L n _ p hp

/-- The run's stores into the code planes are the 768 blocks. -/
theorem planes_eq (c : Dev nD) (i : grid0.Coords) (arg2 : Memref sig .tc .vmem S1x2048x768 .i8) (harg2 : arg2.IsWhole)
    (arg3 : Memref sig .tc .vmem S1x32x768 .i8) (harg3 : arg3.IsWhole) (arg4 : Memref sig .tc .vmem S1x32x768 .i8) (harg4 : arg4.IsWhole)
    (arg12 : Memref sig .tc .vmem S6x528x128 .i32)
    (x0 : Vec F S1x2048x768 .i8) (x1 : Vec F S1x32x768 .i8) (x2 : Vec F S1x32x768 .i8) :
    kernelRun0_A.sl.H8_768 c i arg2 harg2 arg3 harg3 arg4 harg4 arg12 x0 x1 x2 =
      blocks arg12.view (kernelRun0_A.sl.HS0_18 c i arg2 harg2 arg3 harg3 arg4 harg4 x0 x1 x2) 768 (le_refl _) := by
  sl_kernel_rfl

end Cert.KernelIdeal.Val

end
-- ==== Proof.Words.lean ====
/-
  The word buffer of the first pallas_call: what its eighteen stores leave in it, byte by byte, and what one stored block of codes is in
  terms of the words it loads.
-/
module

public import proofs.«01_k».proof.Proof.Blocks
public import Idealize.ShloMosaic.Lib.BitcastFour
public import Idealize.ShloMosaic.Lib.ValueLayout
public import Idealize.ShloMosaic.Lib.WholeRead
public import Idealize.ShloMosaic.Lib.WordCmp
public import Idealize.ShloMosaic.Lib.Pipeline.ValueKit.Geometry

@[expose] public section

set_option maxRecDepth 16384

noncomputable section

namespace Cert.KernelIdeal.Val

open Cert.KernelIdeal Cert.KernelIdeal.Gen Cert.Bytes
open Idealize.ShloMosaic Idealize.ShloMosaic.TcCoe Idealize.ShloMosaic.Tactic Idealize.ShloMosaic.ValueIdx
open Idealize.SL Idealize.SL.RA Idealize.SL.BI Idealize.SL.Sem

variable {F : FTy → Type} [FloatOps F]

/-! ## Bytes of reinterpreted words -/

/-- Byte `b` of word row `a` of four-byte words is source row `4 a + b`. -/
theorem byte_in {R r n : ℕ} (x : (⟨2, ![R, n]⟩ : Shape).Idx → BitVec 8) (h : (⟨2, ![R, n]⟩ : Shape).Bitcasts 8 ⟨2, ![r, n]⟩ 32)
    (a : Fin r) (l : Fin n) (b : ℕ) (hb : b < 4) (p : Fin R) (hp : p.val = 4 * a.val + b) :
    byteOf b (bitcast ⟨2, ![r, n]⟩ 32 x h (ix2 a l)) = x (ix2 p l) := by
  apply BitVec.eq_of_getLsbD_eq
  intro i hi
  unfold byteOf
  rw [BitVec.getLsbD_extractLsb', bitcast_8_32_getLsbD_ix2 x h a l (8 * b + i) (by omega) p (by omega)]
  rw [show (8 * b + i) % 8 = i by omega]
  simp [hi]

/-- Code row `ρ` of a word vector read as bytes is byte `ρ % 4` of word row `ρ / 4`. -/
theorem byte_out {R r n : ℕ} (x : (⟨2, ![R, n]⟩ : Shape).Idx → BitVec 32) (h : (⟨2, ![R, n]⟩ : Shape).Bitcasts 32 ⟨2, ![r, n]⟩ 8)
    (ρ : Fin r) (l : Fin n) (p : Fin R) (hp : p.val = ρ.val / 4) :
    bitcast ⟨2, ![r, n]⟩ 8 x h (ix2 ρ l) = byteOf (ρ.val % 4) (x (ix2 p l)) := by
  apply BitVec.eq_of_getLsbD_eq
  intro i hi
  unfold byteOf
  rw [bitcast_getLsbD x h _ i hi (by decide), BitVec.getLsbD_extractLsb']
  have hrow : (⟨2, ![r, n]⟩ : Shape).row (ix2 ρ l) = ρ.val := rfl
  rw [h.srcIdx_congr _ (show ((⟨2, ![r, n]⟩ : Shape).row (ix2 ρ l) * 8 + i) / 32 = p.val by rw [hrow]; omega) _
    (fun a ha => by
      match a, ha with
      | ⟨0, _⟩, _ => exact p.isLt)]
  rw [show ((⟨2, ![r, n]⟩ : Shape).row (ix2 ρ l) * 8 + i) % 32 = 8 * (ρ.val % 4) + i by rw [hrow]; omega]
  simp only [hi, decide_true, Bool.true_and]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-! ## The word buffer -/

theorem inb_prev (q : ℕ) (hq : q < 6) : ∀ a, ![q, 0, 0] a + S1x8x128.size a ≤ S6x528x128.size a := by
  intro a
  match a with
  | 0 => show q + 1 ≤ 6; omega
  | 1 => show 0 + 8 ≤ 528; omega
  | 2 => show 0 + 128 ≤ 128; omega
theorem inb_cur (q : ℕ) (hq : q < 6) : ∀ a, ![q, 8, 0] a + S1x512x128.size a ≤ S6x528x128.size a := by
  intro a
  match a with
  | 0 => show q + 1 ≤ 6; omega
  | 1 => show 8 + 512 ≤ 528; omega
  | 2 => show 0 + 128 ≤ 128; omega
theorem inb_next (q : ℕ) (hq : q < 6) : ∀ a, ![q, 520, 0] a + S1x8x128.size a ≤ S6x528x128.size a := by
  intro a
  match a with
  | 0 => show q + 1 ≤ 6; omega
  | 1 => show 520 + 8 ≤ 528; omega
  | 2 => show 0 + 128 ≤ 128; omega
theorem slices_8 (q : ℕ) (hq : q < 6) : S8x768.Slices ![0, 128 * q] S8x128 :=
  ⟨rfl, fun a => by
    match a with
    | ⟨0, _⟩ => show 0 + 8 ≤ 8; omega
    | ⟨1, _⟩ => show 128 * q + 128 ≤ 768; omega⟩
theorem slices_512 (q : ℕ) (hq : q < 6) : S512x768.Slices ![0, 128 * q] S512x128 :=
  ⟨rfl, fun a => by
    match a with
    | ⟨0, _⟩ => show 0 + 512 ≤ 512; omega
    | ⟨1, _⟩ => show 128 * q + 128 ≤ 768; omega⟩

/-- The three stores of channel column `q`: eight words before, the tile's own words, eight words after. -/
def stPrev (A : IVec S8x768 32) (q : ℕ) (hq : q < 6) : View.Piece (Elt F) S6x528x128 .i32 :=
  ⟨Rect.unit ![q, 0, 0] S1x8x128.size (inb_prev q hq),
    shapeCast S1x8x128 (extractStridedSlice S8x128 ![0, 128 * q] A (slices_8 q hq)) shapeCasts_S8x128_S1x8x128⟩
def stCur (B : IVec S512x768 32) (q : ℕ) (hq : q < 6) : View.Piece (Elt F) S6x528x128 .i32 :=
  ⟨Rect.unit ![q, 8, 0] S1x512x128.size (inb_cur q hq),
    shapeCast S1x512x128 (extractStridedSlice S512x128 ![0, 128 * q] B (slices_512 q hq)) shapeCasts_S512x128_S1x512x128⟩
def stNext (C : IVec S8x768 32) (q : ℕ) (hq : q < 6) : View.Piece (Elt F) S6x528x128 .i32 :=
  ⟨Rect.unit ![q, 520, 0] S1x8x128.size (inb_next q hq),
    shapeCast S1x8x128 (extractStridedSlice S8x128 ![0, 128 * q] C (slices_8 q hq)) shapeCasts_S8x128_S1x8x128⟩

/-- The stores of the first `n` channel columns, the last one first. -/
def stores (A : IVec S8x768 32) (B : IVec S512x768 32) (C : IVec S8x768 32) (n : ℕ) :
    n ≤ 6 → List (View.Piece (Elt F) S6x528x128 .i32) :=
  @Nat.rec (fun n => n ≤ 6 → List (View.Piece (Elt F) S6x528x128 .i32)) (fun _ => [])
    (fun n ih h => stNext C n h :: stCur B n h :: stPrev A n h :: ih (Nat.le_of_succ_le h)) n

/-- The words the stores leave. -/
def wordAt (A : IVec S8x768 32) (B : IVec S512x768 32) (C : IVec S8x768 32) (y : S6x528x128.Idx) : BitVec 32 :=
  have hq : (y 0).val < 6 := (y 0).isLt
  have hw : (y 1).val < 528 := (y 1).isLt
  have hl : (y 2).val < 128 := (y 2).isLt
  let o : Fin 768 := ⟨128 * (y 0).val + (y 2).val, by omega⟩
  if h : (y 1).val < 8 then A (ix2 ⟨(y 1).val, h⟩ o)
  else if h2 : (y 1).val < 520 then B (ix2 ⟨(y 1).val - 8, by omega⟩ o)
  else C (ix2 ⟨(y 1).val - 520, by omega⟩ o)

theorem stPrev_val (A : IVec S8x768 32) (B : IVec S512x768 32) (C : IVec S8x768 32) (q : ℕ) (hq : q < 6) (x) :
    (stPrev (F := F) A q hq).2 x = wordAt A B C ((stPrev (F := F) A q hq).1.emb x) := by
  obtain ⟨u, w, l, rfl⟩ : ∃ (u : Fin 1) (w : Fin 8) (l : Fin 128), x = ix3 u w l := ⟨x 0, x 1, x 2, eq_ix3 x⟩
  have h0 : ((stPrev (F := F) A q hq).1.emb (ix3 u w l) 0).val = q := by
    refine (ValueKit.rect_emb_unit_val (s := S6x528x128) ![q, 0, 0] S1x8x128.size (inb_prev q hq) _ _).trans ?_; show q + u.val = q; omega
  have h1 : ((stPrev (F := F) A q hq).1.emb (ix3 u w l) 1).val = w.val := by
    refine (ValueKit.rect_emb_unit_val (s := S6x528x128) ![q, 0, 0] S1x8x128.size (inb_prev q hq) _ _).trans ?_; show 0 + w.val = _; omega
  have h2 : ((stPrev (F := F) A q hq).1.emb (ix3 u w l) 2).val = l.val := by
    refine (ValueKit.rect_emb_unit_val (s := S6x528x128) ![q, 0, 0] S1x8x128.size (inb_prev q hq) _ _).trans ?_; show 0 + l.val = _; omega
  refine (shapeCast_ab_1ab_apply (extractStridedSlice S8x128 ![0, 128 * q] A (slices_8 q hq)) shapeCasts_S8x128_S1x8x128 u w l).trans ?_
  unfold wordAt
  rw [dif_pos (by omega)]
  rw [extractStridedSlice_apply ![0, 128 * q] A (slices_8 q hq) (ix2 w l) (ix2 w ⟨128 * q + l.val, by omega⟩) (fun a => by
    match a with
    | ⟨0, _⟩ => show w.val = 0 + w.val; omega
    | ⟨1, _⟩ => rfl)]
  congr 1
  funext a
  match a with
  | ⟨0, _⟩ => exact Fin.ext h1.symm
  | ⟨1, _⟩ => exact Fin.ext (by show 128 * q + l.val = 128 * _ + _; rw [h0, h2])

theorem stCur_val (A : IVec S8x768 32) (B : IVec S512x768 32) (C : IVec S8x768 32) (q : ℕ) (hq : q < 6) (x) :
    (stCur (F := F) B q hq).2 x = wordAt A B C ((stCur (F := F) B q hq).1.emb x) := by
  obtain ⟨u, w, l, rfl⟩ : ∃ (u : Fin 1) (w : Fin 512) (l : Fin 128), x = ix3 u w l := ⟨x 0, x 1, x 2, eq_ix3 x⟩
  have h0 : ((stCur (F := F) B q hq).1.emb (ix3 u w l) 0).val = q := by
    refine (ValueKit.rect_emb_unit_val (s := S6x528x128) ![q, 8, 0] S1x512x128.size (inb_cur q hq) _ _).trans ?_; show q + u.val = q; omega
  have h1 : ((stCur (F := F) B q hq).1.emb (ix3 u w l) 1).val = 8 + w.val :=
    ValueKit.rect_emb_unit_val (s := S6x528x128) ![q, 8, 0] S1x512x128.size (inb_cur q hq) _ _
  have h2 : ((stCur (F := F) B q hq).1.emb (ix3 u w l) 2).val = l.val := by
    refine (ValueKit.rect_emb_unit_val (s := S6x528x128) ![q, 8, 0] S1x512x128.size (inb_cur q hq) _ _).trans ?_; show 0 + l.val = _; omega
  refine (shapeCast_ab_1ab_apply (extractStridedSlice S512x128 ![0, 128 * q] B (slices_512 q hq)) shapeCasts_S512x128_S1x512x128 u w l).trans ?_
  unfold wordAt
  rw [dif_neg (by omega), dif_pos (by omega)]
  rw [extractStridedSlice_apply ![0, 128 * q] B (slices_512 q hq) (ix2 w l) (ix2 w ⟨128 * q + l.val, by omega⟩) (fun a => by
    match a with
    | ⟨0, _⟩ => show w.val = 0 + w.val; omega
    | ⟨1, _⟩ => rfl)]
  congr 1
  funext a
  match a with
  | ⟨0, _⟩ => exact Fin.ext (by show w.val = _ - 8; rw [h1]; omega)
  | ⟨1, _⟩ => exact Fin.ext (by show 128 * q + l.val = 128 * _ + _; rw [h0, h2])

theorem stNext_val (A : IVec S8x768 32) (B : IVec S512x768 32) (C : IVec S8x768 32) (q : ℕ) (hq : q < 6) (x) :
    (stNext (F := F) C q hq).2 x = wordAt A B C ((stNext (F := F) C q hq).1.emb x) := by
  obtain ⟨u, w, l, rfl⟩ : ∃ (u : Fin 1) (w : Fin 8) (l : Fin 128), x = ix3 u w l := ⟨x 0, x 1, x 2, eq_ix3 x⟩
  have h0 : ((stNext (F := F) C q hq).1.emb (ix3 u w l) 0).val = q := by
    refine (ValueKit.rect_emb_unit_val (s := S6x528x128) ![q, 520, 0] S1x8x128.size (inb_next q hq) _ _).trans ?_; show q + u.val = q; omega
  have h1 : ((stNext (F := F) C q hq).1.emb (ix3 u w l) 1).val = 520 + w.val :=
    ValueKit.rect_emb_unit_val (s := S6x528x128) ![q, 520, 0] S1x8x128.size (inb_next q hq) _ _
  have h2 : ((stNext (F := F) C q hq).1.emb (ix3 u w l) 2).val = l.val := by
    refine (ValueKit.rect_emb_unit_val (s := S6x528x128) ![q, 520, 0] S1x8x128.size (inb_next q hq) _ _).trans ?_; show 0 + l.val = _; omega
  refine (shapeCast_ab_1ab_apply (extractStridedSlice S8x128 ![0, 128 * q] C (slices_8 q hq)) shapeCasts_S8x128_S1x8x128 u w l).trans ?_
  unfold wordAt
  rw [dif_neg (by omega), dif_neg (by omega)]
  rw [extractStridedSlice_apply ![0, 128 * q] C (slices_8 q hq) (ix2 w l) (ix2 w ⟨128 * q + l.val, by omega⟩) (fun a => by
    match a with
    | ⟨0, _⟩ => show w.val = 0 + w.val; omega
    | ⟨1, _⟩ => rfl)]
  congr 1
  funext a
  match a with
  | ⟨0, _⟩ => exact Fin.ext (by show w.val = _ - 520; rw [h1]; omega)
  | ⟨1, _⟩ => exact Fin.ext (by show 128 * q + l.val = 128 * _ + _; rw [h0, h2])

theorem stores_val (A : IVec S8x768 32) (B : IVec S512x768 32) (C : IVec S8x768 32) :
    ∀ (n : ℕ) (h : n ≤ 6), ∀ p ∈ stores (F := F) A B C n h, ∀ x : p.1.shape.Idx, p.2 x = wordAt A B C (p.1.emb x)
  | 0, _, p, hp => absurd hp List.not_mem_nil
  | n + 1, h, p, hp => by
      rcases List.mem_cons.mp hp with rfl | hp
      · exact stNext_val A B C n h
      rcases List.mem_cons.mp hp with rfl | hp
      · exact stCur_val A B C n h
      rcases List.mem_cons.mp hp with rfl | hp
      · exact stPrev_val A B C n h
      · exact stores_val A B C n _ p hp

theorem stores_mem (A : IVec S8x768 32) (B : IVec S512x768 32) (C : IVec S8x768 32) :
    ∀ (n : ℕ) (h : n ≤ 6) (q : ℕ) (hq : q < n),
      stNext (F := F) C q (by omega) ∈ stores (F := F) A B C n h ∧ stCur (F := F) B q (by omega) ∈ stores (F := F) A B C n h ∧
        stPrev (F := F) A q (by omega) ∈ stores (F := F) A B C n h
  | n + 1, h, q, hq => by
      by_cases e : q = n
      · subst e
        exact ⟨List.mem_cons_self, List.mem_cons_of_mem _ List.mem_cons_self,
          List.mem_cons_of_mem _ (List.mem_cons_of_mem _ List.mem_cons_self)⟩
      · obtain ⟨a, b, c⟩ := stores_mem A B C n (by omega) q (by omega)
        exact ⟨List.mem_cons_of_mem _ (List.mem_cons_of_mem _ (List.mem_cons_of_mem _ a)),
          List.mem_cons_of_mem _ (List.mem_cons_of_mem _ (List.mem_cons_of_mem _ b)),
          List.mem_cons_of_mem _ (List.mem_cons_of_mem _ (List.mem_cons_of_mem _ c))⟩

theorem stores_cover (A : IVec S8x768 32) (B : IVec S512x768 32) (C : IVec S8x768 32) (y : S6x528x128.Idx) :
    ∃ p ∈ stores (F := F) A B C 6 (le_refl _), y ∈ p.1.set := by
  have hq : (y 0).val < 6 := (y 0).isLt
  have hw : (y 1).val < 528 := (y 1).isLt
  have hl : (y 2).val < 128 := (y 2).isLt
  obtain ⟨a, b, c⟩ := stores_mem (F := F) A B C 6 (le_refl _) (y 0).val hq
  by_cases h1 : (y 1).val < 8
  · refine ⟨_, c, (Rect.mem_set_unit (inb := inb_prev (y 0).val hq)).2 fun d => ?_⟩
    match d with
    | 0 => show (y 0).val ≤ (y 0).val ∧ (y 0).val < (y 0).val + 1; omega
    | 1 => show 0 ≤ (y 1).val ∧ (y 1).val < 0 + 8; omega
    | 2 => show 0 ≤ (y 2).val ∧ (y 2).val < 0 + 128; omega
  by_cases h2 : (y 1).val < 520
  · refine ⟨_, b, (Rect.mem_set_unit (inb := inb_cur (y 0).val hq)).2 fun d => ?_⟩
    match d with
    | 0 => show (y 0).val ≤ (y 0).val ∧ (y 0).val < (y 0).val + 1; omega
    | 1 => show 8 ≤ (y 1).val ∧ (y 1).val < 8 + 512; omega
    | 2 => show 0 ≤ (y 2).val ∧ (y 2).val < 0 + 128; omega
  · refine ⟨_, a, (Rect.mem_set_unit (inb := inb_next (y 0).val hq)).2 fun d => ?_⟩
    match d with
    | 0 => show (y 0).val ≤ (y 0).val ∧ (y 0).val < (y 0).val + 1; omega
    | 1 => show 520 ≤ (y 1).val ∧ (y 1).val < 520 + 8; omega
    | 2 => show 0 ≤ (y 2).val ∧ (y 2).val < 0 + 128; omega

/-- A load from the buffer after the stores. -/
theorem load_stores (v : View sig .tc .vmem S6x528x128 .i32) (A : IVec S8x768 32) (B : IVec S512x768 32) (C : IVec S8x768 32)
    (q row : ℕ) (hq : q < 6) (hr : row < 472) (u : Fin 1) (i : Fin 8) (l : Fin 128) :
    load (F := F) v (stores A B C 6 (le_refl _)) q row hq hr (ix3 u i l)
      = wordAt A B C (ix3 (⟨q, hq⟩ : Fin 6) (⟨row + 8 * i.val, by omega⟩ : Fin 528) l) := by
  unfold load
  rw [View.readCov_eq_canon']
  refine (View.canon_apply_of_pieces (wordAt A B C) _ (stores_val A B C 6 _) _ (stores_cover A B C _)).trans ?_
  congr 1
  funext a
  match a with
  | ⟨0, _⟩ => exact Fin.ext (by show q + 1 * u.val = q; omega)
  | ⟨1, _⟩ => exact Fin.ext (by show row + 8 * i.val = row + 8 * i.val; rfl)
  | ⟨2, _⟩ => exact Fin.ext (by show 0 + 1 * l.val = l.val; omega)

end Cert.KernelIdeal.Val

end
-- ==== Proof.Planes.lean ====
/-
  What the first pallas_call leaves in its code planes at one grid point: row `k`, frame `τ`, channel `o` holds the code at place
  `28 + 8 τ + k` of the tile's codes extended by thirty-two on either side.
-/
module

public import proofs.«01_k».proof.Proof.Words
public import Idealize.ShloMosaic.Lib.ValueIdxCoords

@[expose] public section

set_option maxRecDepth 16384

noncomputable section

namespace Cert.KernelIdeal.Val

open Cert.KernelIdeal Cert.KernelIdeal.Gen Cert.Bytes
open Idealize.ShloMosaic Idealize.ShloMosaic.TcCoe Idealize.ShloMosaic.Tactic Idealize.ShloMosaic.ValueIdx
open Idealize.SL Idealize.SL.RA Idealize.SL.BI Idealize.SL.Sem

variable {F : FTy → Type} [FloatOps F]

section Run
variable (c : Dev nD) (i : grid0.Coords) (arg2 : Memref sig .tc .vmem S1x2048x768 .i8) (harg2 : arg2.IsWhole)
    (arg3 : Memref sig .tc .vmem S1x32x768 .i8) (harg3 : arg3.IsWhole) (arg4 : Memref sig .tc .vmem S1x32x768 .i8) (harg4 : arg4.IsWhole)
    (arg12 : Memref sig .tc .vmem S6x528x128 .i32)
    (x0 : Vec F S1x2048x768 .i8) (x1 : Vec F S1x32x768 .i8) (x2 : Vec F S1x32x768 .i8)

/-- The words before the tile: of the halo block, or zeros at a batch entry's first tile. -/
def prevW (i : grid0.Coords) (x1 : Vec F S1x32x768 .i8) : IVec S8x768 32 :=
  Scalar.select (Scalar.cmpi .eq (BitVec.ofNat 32 (i 1).val) 0#32) (broadcast S8x768 0#32)
    (bitcast S8x768 32 (shapeCast S32x768 x1 shapeCasts_S1x32x768_S32x768) bitcasts_S32x768_w8_S8x768_w32)

/-- The tile's own words. -/
def curW (x0 : Vec F S1x2048x768 .i8) : IVec S512x768 32 :=
  bitcast S512x768 32 (shapeCast S2048x768 x0 shapeCasts_S1x2048x768_S2048x768) bitcasts_S2048x768_w8_S512x768_w32

/-- The words after the tile: of the halo block, or zeros at a batch entry's last tile. -/
def nextW (i : grid0.Coords) (x2 : Vec F S1x32x768 .i8) : IVec S8x768 32 :=
  Scalar.select (Scalar.cmpi .eq (BitVec.ofNat 32 (i 1).val) 7#32) (broadcast S8x768 0#32)
    (bitcast S8x768 32 (shapeCast S32x768 x2 shapeCasts_S1x32x768_S32x768) bitcasts_S32x768_w8_S8x768_w32)

theorem read_whole3 {a b : ℕ} {e : EltTy} (m : Memref sig .tc .vmem ⟨3, ![1, a, b]⟩ e) (h : m.IsWhole)
    (X : Vec F ⟨3, ![1, a, b]⟩ e) (inb) :
    View.readAt (Elt F) m.view (Rect.unit (s := ⟨3, ![1, a, b]⟩) ![0, 0, 0] (⟨3, ![1, a, b]⟩ : Shape).size inb).toLoadRect (h.unread X) = X := by
  funext y
  refine (h.readAt_unread X _ y).trans ?_
  congr 1
  funext d
  match d with
  | ⟨0, _⟩ => exact Fin.ext ((Nat.zero_add _).trans (Nat.one_mul _))
  | ⟨1, _⟩ => exact Fin.ext ((Nat.zero_add _).trans (Nat.one_mul _))
  | ⟨2, _⟩ => exact Fin.ext ((Nat.zero_add _).trans (Nat.one_mul _))

theorem v9_eq : kernelRun0_A.sl.v9 c arg2 harg2 x0 = curW x0 :=
  congrArg (curW (F := F)) (read_whole3 arg2 harg2 x0 _)
theorem v11_eq : kernelRun0_A.sl.v11 c i arg3 harg3 x1 = prevW i x1 :=
  congrArg (prevW (F := F) i) (read_whole3 arg3 harg3 x1 _)
theorem v13_eq : kernelRun0_A.sl.v13 c i arg4 harg4 x2 = nextW i x2 :=
  congrArg (nextW (F := F) i) (read_whole3 arg4 harg4 x2 _)

/-- The run's stores into the word buffer. -/
theorem words_eq : kernelRun0_A.sl.HS0_18 c i arg2 harg2 arg3 harg3 arg4 harg4 x0 x1 x2 =
    stores (F := F) (prevW i x1) (curW x0) (nextW i x2) 6 (le_refl _) := by
  have h : kernelRun0_A.sl.HS0_18 c i arg2 harg2 arg3 harg3 arg4 harg4 x0 x1 x2 =
    stores (F := F) (kernelRun0_A.sl.v11 c i arg3 harg3 x1) (kernelRun0_A.sl.v9 c arg2 harg2 x0)
      (kernelRun0_A.sl.v13 c i arg4 harg4 x2) 6 (le_refl _) := by
    sl_kernel_rfl
  rw [h, v9_eq, v11_eq, v13_eq]

end Run

/-- Place `σ` of the tile's codes extended by thirty-two codes on either side. -/
def extByte (i : grid0.Coords) (x0 : Vec F S1x2048x768 .i8) (x1 : Vec F S1x32x768 .i8) (x2 : Vec F S1x32x768 .i8) (σ : Fin 2112)
    (o : Fin 768) : BitVec 8 :=
  if h : σ.val < 32 then (if (i 1).val = 0 then 0 else x1 (ix3 (0 : Fin 1) (⟨σ.val, h⟩ : Fin 32) o))
  else if h2 : σ.val < 2080 then x0 (ix3 (0 : Fin 1) (⟨σ.val - 32, by omega⟩ : Fin 2048) o)
  else (if (i 1).val = 7 then 0 else x2 (ix3 (0 : Fin 1) (⟨σ.val - 2080, by omega⟩ : Fin 32) o))

theorem halo_byte (i1 : ℕ) (hi : i1 < 8) (k : ℕ) (hk : k < 8) (X : Vec F S1x32x768 .i8) (w : Fin 8) (o : Fin 768) (b : ℕ) (hb : b < 4)
    (p : Fin 32) (hp : p.val = 4 * w.val + b) :
    byteOf b ((Scalar.select (Scalar.cmpi .eq (BitVec.ofNat 32 i1) (BitVec.ofNat 32 k)) (broadcast S8x768 0#32)
      (bitcast S8x768 32 (shapeCast S32x768 X shapeCasts_S1x32x768_S32x768) bitcasts_S32x768_w8_S8x768_w32) : IVec S8x768 32) (ix2 w o))
      = if i1 = k then 0 else X (ix3 (0 : Fin 1) p o) := by
  have hc : Scalar.cmpi .eq (BitVec.ofNat 32 i1) (BitVec.ofNat 32 k) = BitVec.ofBool (decide (i1 = k)) := by
    have all : ∀ a b : Fin 8, Scalar.cmpi .eq (BitVec.ofNat 32 a.val) (BitVec.ofNat 32 b.val) = BitVec.ofBool (decide (a.val = b.val)) := by
      decide +kernel
    exact all ⟨i1, hi⟩ ⟨k, hk⟩
  rw [hc]
  by_cases h : i1 = k
  · rw [if_pos h, decide_eq_true h, show BitVec.ofBool true = 1#1 from rfl, ValueIdx.select_one]
    show byteOf b (0#32) = 0
    unfold byteOf; simp
  · rw [if_neg h, decide_eq_false h, show BitVec.ofBool false = 0#1 from rfl, ValueIdx.select_zero]
    refine (byte_in (R := 32) (r := 8) (n := 768) _ bitcasts_S32x768_w8_S8x768_w32 w o b hb p hp).trans ?_
    exact shapeCast_1ab_ab_apply X shapeCasts_S1x32x768_S32x768 p o

/-- The buffer's bytes are the extended codes. -/
theorem wordAt_byte (i : grid0.Coords) (x0 : Vec F S1x2048x768 .i8) (x1 : Vec F S1x32x768 .i8) (x2 : Vec F S1x32x768 .i8)
    (q : Fin 6) (w : Fin 528) (l : Fin 128) (b : ℕ) (hb : b < 4) (σ : Fin 2112) (hσ : σ.val = 4 * w.val + b) (o : Fin 768)
    (ho : o.val = 128 * q.val + l.val) :
    byteOf b (wordAt (prevW i x1) (curW x0) (nextW i x2) (ix3 q w l)) = extByte i x0 x1 x2 σ o := by
  have eo : (⟨128 * q.val + l.val, by omega⟩ : Fin 768) = o := Fin.ext ho.symm
  have hi : (i 1).val < 8 := (i 1).isLt
  unfold wordAt extByte
  simp only [ix3_0, ix3_1, ix3_2]
  rw [eo]
  by_cases h1 : w.val < 8
  · rw [dif_pos h1, dif_pos (show σ.val < 32 by omega)]
    exact halo_byte (i 1).val hi 0 (by omega) x1 ⟨w.val, h1⟩ o b hb _ hσ
  · rw [dif_neg h1, dif_neg (show ¬ σ.val < 32 by omega)]
    by_cases h2 : w.val < 520
    · rw [dif_pos h2, dif_pos (show σ.val < 2080 by omega)]
      refine (byte_in (R := 2048) (r := 512) (n := 768) _ bitcasts_S2048x768_w8_S512x768_w32 ⟨w.val - 8, by omega⟩ o b hb
        ⟨σ.val - 32, by omega⟩ (by show σ.val - 32 = 4 * (w.val - 8) + b; omega)).trans ?_
      exact shapeCast_1ab_ab_apply x0 shapeCasts_S1x2048x768_S2048x768 _ o
    · rw [dif_neg h2, dif_neg (show ¬ σ.val < 2080 by omega)]
      exact halo_byte (i 1).val hi 7 (by omega) x2 ⟨w.val - 520, by omega⟩ o b hb _ (by show σ.val - 2080 = 4 * (w.val - 520) + b; omega)

/-- Word vector `m` of the byte transpose, lane by lane. -/
theorem planeV_apply (m : Fin 4) (a0 a1 a2 a3 : IVec S8x128 32) (j : S8x128.Idx) :
    planeV m.val a0 a1 a2 a3 j = plane m (a0 j) (a1 j) (a2 j) (a3 j) := by
  match m with
  | 0 => rfl
  | 1 => rfl
  | 2 => rfl
  | 3 => rfl

theorem pick_0 (a0 a1 a2 a3 : BitVec 32) : pick 0 a0 a1 a2 a3 = a0 := rfl
theorem pick_1 (a0 a1 a2 a3 : BitVec 32) : pick 1 a0 a1 a2 a3 = a1 := rfl
theorem pick_2 (a0 a1 a2 a3 : BitVec 32) : pick 2 a0 a1 a2 a3 = a2 := rfl
theorem pick_3 (a0 a1 a2 a3 : BitVec 32) : pick 3 a0 a1 a2 a3 = a3 := rfl

/-- A stored block's code at one place is byte `m` of the word loaded there. -/
theorem blockPay_apply (m : ℕ) (hm : m < 4) (w0 w1 w2 w3 : Vec F S1x8x128 .i32) (u : Fin 1) (ρ : Fin 32) (l : Fin 128) :
    blockPay m w0 w1 w2 w3 (ix3 u ρ l) = FloatOps.ofBits .fp8e5m2 (byteOf m (pick (ρ.val % 4)
      (w0 (ix3 (0 : Fin 1) (⟨ρ.val / 4, by omega⟩ : Fin 8) l)) (w1 (ix3 (0 : Fin 1) (⟨ρ.val / 4, by omega⟩ : Fin 8) l))
      (w2 (ix3 (0 : Fin 1) (⟨ρ.val / 4, by omega⟩ : Fin 8) l)) (w3 (ix3 (0 : Fin 1) (⟨ρ.val / 4, by omega⟩ : Fin 8) l)))) := by
  unfold blockPay
  refine (shapeCast_ab_1ab_apply _ shapeCasts_S32x128_S1x32x128 u ρ l).trans ?_
  refine congrArg (FloatOps.ofBits .fp8e5m2) ?_
  refine (byte_out (R := 8) (r := 32) (n := 128) _ bitcasts_S8x128_w32_S32x128_w8 ρ l ⟨ρ.val / 4, by omega⟩ rfl).trans ?_
  rw [planeV_apply ⟨m, hm⟩]
  rw [plane_byte ⟨m, hm⟩ _ _ _ _ (ρ.val % 4) (by omega)]
  rw [shapeCast_1ab_ab_apply w0, shapeCast_1ab_ab_apply w1, shapeCast_1ab_ab_apply w2, shapeCast_1ab_ab_apply w3]

/-- The code planes of one grid point. -/
def planesAt (i : grid0.Coords) (x0 : Vec F S1x2048x768 .i8) (x1 : Vec F S1x32x768 .i8) (x2 : Vec F S1x32x768 .i8)
    (y : S16x256x768.Idx) : F .fp8e5m2 :=
  have hk : (y 0).val < 16 := (y 0).isLt
  have ht : (y 1).val < 256 := (y 1).isLt
  FloatOps.ofBits .fp8e5m2 (extByte i x0 x1 x2 ⟨28 + 8 * (y 1).val + (y 0).val, by omega⟩ (y 2))

/-- Every store writes the code planes' values. -/
theorem block_val (v : View sig .tc .vmem S6x528x128 .i32) (i : grid0.Coords) (x0 : Vec F S1x2048x768 .i8) (x1 : Vec F S1x32x768 .i8)
    (x2 : Vec F S1x32x768 .i8) (n : ℕ) (hn : n < 768) (x) :
    (block (F := F) v (stores (prevW i x1) (curW x0) (nextW i x2) 6 (le_refl _)) n hn).2 x =
      planesAt i x0 x1 x2 ((block (F := F) v (stores (prevW i x1) (curW x0) (nextW i x2) 6 (le_refl _)) n hn).1.emb x) := by
  obtain ⟨u, ρ, l, rfl⟩ : ∃ (u : Fin 1) (ρ : Fin 32) (l : Fin 128), x = ix3 u ρ l := ⟨x 0, x 1, x 2, eq_ix3 x⟩
  have h0 : ((block (F := F) v (stores (prevW i x1) (curW x0) (nextW i x2) 6 (le_refl _)) n hn).1.emb (ix3 u ρ l) 0).val
      = 4 * (n / 192) + n % 4 := by
    refine (ValueKit.rect_emb_unit_val (s := S16x256x768) _ S1x32x128.size (inb_block n hn) _ _).trans ?_
    show 4 * (n / 192) + n % 4 + u.val = _; omega
  have h1 : ((block (F := F) v (stores (prevW i x1) (curW x0) (nextW i x2) 6 (le_refl _)) n hn).1.emb (ix3 u ρ l) 1).val
      = 32 * (n / 24 % 8) + ρ.val :=
    ValueKit.rect_emb_unit_val (s := S16x256x768) _ S1x32x128.size (inb_block n hn) _ _
  have h2 : ((block (F := F) v (stores (prevW i x1) (curW x0) (nextW i x2) 6 (le_refl _)) n hn).1.emb (ix3 u ρ l) 2).val
      = 128 * (n / 4 % 6) + l.val :=
    ValueKit.rect_emb_unit_val (s := S16x256x768) _ S1x32x128.size (inb_block n hn) _ _
  refine (blockPay_apply (n % 4) (by omega) _ _ _ _ u ρ l).trans ?_
  unfold planesAt
  refine congrArg (FloatOps.ofBits .fp8e5m2) ?_
  simp only [load_stores]
  have hρ : ρ.val % 4 = 0 ∨ ρ.val % 4 = 1 ∨ ρ.val % 4 = 2 ∨ ρ.val % 4 = 3 := by omega
  rcases hρ with h | h | h | h <;> rw [h] <;> simp only [pick_0, pick_1, pick_2, pick_3] <;>
    exact wordAt_byte i x0 x1 x2 _ _ l (n % 4) (by omega) _
      (by
        show 28 + 8 * (Fin.val _) + (Fin.val _) = 4 * (Fin.val _) + n % 4
        rw [h0, h1]; simp only; omega) _ h2

section Run
variable (c : Dev nD) (i : grid0.Coords) (arg2 : Memref sig .tc .vmem S1x2048x768 .i8) (harg2 : arg2.IsWhole)
    (arg3 : Memref sig .tc .vmem S1x32x768 .i8) (harg3 : arg3.IsWhole) (arg4 : Memref sig .tc .vmem S1x32x768 .i8) (harg4 : arg4.IsWhole)
    (arg12 : Memref sig .tc .vmem S6x528x128 .i32)
    (x0 : Vec F S1x2048x768 .i8) (x1 : Vec F S1x32x768 .i8) (x2 : Vec F S1x32x768 .i8)

/-- Each of the run's stores writes the code planes' values. -/
theorem H8_val : ∀ p ∈ kernelRun0_A.sl.H8_768 c i arg2 harg2 arg3 harg3 arg4 harg4 arg12 x0 x1 x2,
    ∀ x : p.1.shape.Idx, p.2 x = planesAt i x0 x1 x2 (p.1.emb x) := by
  rw [planes_eq, words_eq]
  intro p hp
  obtain ⟨k, hk, rfl⟩ := mem_blocks _ _ _ _ p hp
  exact block_val arg12.view i x0 x1 x2 k hk

/-- The run's stores into the code planes cover them. -/
theorem H8_cover (y : S16x256x768.Idx) :
    ∃ p ∈ kernelRun0_A.sl.H8_768 c i arg2 harg2 arg3 harg3 arg4 harg4 arg12 x0 x1 x2, y ∈ p.1.set :=
  View.cover_of_tiledL (kernelRun0_A.sl.H8_768 c i arg2 harg2 arg3 harg3 arg4 harg4 arg12 x0 x1 x2) S1x32x128.size (by sl_kernel_rfl) y

end Run

end Cert.KernelIdeal.Val

end
-- ==== Proof.Taps.lean ====
/-
  The accumulator of the first pallas_call: sixteen tap terms added one after another, each a product of one code plane, scaled by its
  frame and by its channel, with one tap's weights.
-/
module

public import proofs.«01_k».proof.Proof.Planes
public import Idealize.ShloMosaic.Lib.MatmulPlain
public import Idealize.ShloMosaic.Lib.Pipeline.FrameBody
public import Idealize.ShloMosaic.PureOps.Ideal.Laws

@[expose] public section

set_option maxRecDepth 16384

noncomputable section

namespace Cert.KernelIdeal.Val

open Cert.KernelIdeal Cert.KernelIdeal.Gen Cert.Bytes
open Idealize.ShloMosaic Idealize.ShloMosaic.TcCoe Idealize.ShloMosaic.Tactic Idealize.ShloMosaic.ValueIdx
open Idealize.SL Idealize.SL.RA Idealize.SL.BI Idealize.SL.Sem

variable {F : FTy → Type} [FloatOps F]

/-- One tap's term. -/
def tapTerm (wsb : FVec F S1x768 .bf16) (sg : Vec F S256x1 .f32) (gm : Vec F S1x256x768 .fp8e5m2) (w : Vec F S1x1536x768 .fp8e4m3) :
    FVec F S256x1536 .f32 :=
  matmul dot_S256x768_S1536x768_S256x1536_1_1_0_0_n_n none
    (mulf (mulf (extf .bf16 (shapeCast S256x768 gm shapeCasts_S1x256x768_S256x768) bitsLt_fp8e5m2_bf16)
        (broadcastTo S256x768 (truncf .bf16 (shapeCast S256x1 sg shapeCasts_S256x1_S256x1) bitsLt_bf16_f32) broadcasts_S256x1_S256x768))
      (broadcastTo S256x768 wsb broadcasts_S1x768_S256x768))
    (shapeCast S1536x768 w shapeCasts_S1x1536x768_S1536x768) (constant S256x1536 .f32 0x00000000#32)

/-- The accumulator's buffer is stored and loaded whole. -/
abbrev whole13 : Rect S256x1536 := Rect.unit ![0, 0] S256x1536.size inb_S256x1536_S256x1536_0_0

/-- The stores into the accumulator, the last one first: the first is a term, each later one what was there plus a term. -/
def accL (v : View sig .tc .vmem S256x1536 .f32) (T : ℕ → FVec F S256x1536 .f32) : ℕ → List (View.Piece (Elt F) S256x1536 .f32) :=
  @Nat.rec (fun _ => List (View.Piece (Elt F) S256x1536 .f32))
    [⟨whole13, shapeCast S256x1536 (T 0) shapeCasts_S256x1536_S256x1536⟩]
    (fun n ih => ⟨whole13, shapeCast S256x1536 (addf (v.readCov ih whole13.toLoadRect) (T (n + 1))) shapeCasts_S256x1536_S256x1536⟩ :: ih)

/-- The accumulator after `n + 1` terms. -/
def accV (T : ℕ → FVec F S256x1536 .f32) : ℕ → FVec F S256x1536 .f32
  | 0 => T 0
  | n + 1 => addf (accV T n) (T (n + 1))

theorem readCov_accL (v : View sig .tc .vmem S256x1536 .f32) (T : ℕ → FVec F S256x1536 .f32) :
    ∀ n, v.readCov (accL v T n) whole13.toLoadRect = accV T n
  | 0 => by
      refine (View.readCov_cons_toLoadRect v whole13 _ []).trans ?_
      exact shapeCast_self _ _
  | n + 1 => by
      refine (View.readCov_cons_toLoadRect v whole13 _ (accL v T n)).trans ?_
      refine (shapeCast_self (addf (v.readCov (accL v T n) whole13.toLoadRect) (T (n + 1))) _).trans ?_
      rw [readCov_accL v T n]
      rfl

theorem inb_sig (k : ℕ) (hk : k < 16) : ∀ a, ![0, (k + 4) / 8] a + S256x1.size a ≤ S256x3.size a := by
  intro a
  match a with
  | 0 => show 0 + 256 ≤ 256; omega
  | 1 => show (k + 4) / 8 + 1 ≤ 3; omega
theorem inb_plane (k : ℕ) (hk : k < 16) : ∀ a, ![k, 0, 0] a + S1x256x768.size a ≤ S16x256x768.size a := by
  intro a
  match a with
  | 0 => show k + 1 ≤ 16; omega
  | 1 => show 0 + 256 ≤ 256; omega
  | 2 => show 0 + 768 ≤ 768; omega
theorem inb_tap (k : ℕ) (hk : k < 16) : ∀ a, ![k, 0, 0] a + S1x1536x768.size a ≤ S16x1536x768.size a := by
  intro a
  match a with
  | 0 => show k + 1 ≤ 16; omega
  | 1 => show 0 + 1536 ≤ 1536; omega
  | 2 => show 0 + 768 ≤ 768; omega

/-- The term of tap `k`, over what the point loads. -/
def termAt (wsb : FVec F S1x768 .bf16) (a6 : ∀ k : ℕ, k < 16 → Vec F S256x1 .f32)
    (a10 : ∀ k : ℕ, k < 16 → Vec F S1x256x768 .fp8e5m2) (a8 : ∀ k : ℕ, k < 16 → Vec F S1x1536x768 .fp8e4m3) (k : ℕ) : FVec F S256x1536 .f32 :=
  @Decidable.rec (k < 16) (fun _ => FVec F S256x1536 .f32) (fun _ => constant S256x1536 .f32 0x00000000#32)
    (fun h => tapTerm wsb (a6 k h) (a10 k h) (a8 k h)) (Nat.decLt k 16)

section Run
variable (c : Dev nD) (i : grid0.Coords) (arg2 : Memref sig .tc .vmem S1x2048x768 .i8) (harg2 : arg2.IsWhole)
    (arg3 : Memref sig .tc .vmem S1x32x768 .i8) (harg3 : arg3.IsWhole) (arg4 : Memref sig .tc .vmem S1x32x768 .i8) (harg4 : arg4.IsWhole)
    (arg6 : Memref sig .tc .vmem S256x3 .f32) (harg6 : arg6.IsWhole) (arg7 : Memref sig .tc .vmem S1x768 .f32) (harg7 : arg7.IsWhole)
    (arg8 : Memref sig .tc .vmem S16x1536x768 .fp8e4m3) (harg8 : arg8.IsWhole)
    (arg10 : Memref sig .tc .vmem S16x256x768 .fp8e5m2)
    (arg12 : Memref sig .tc .vmem S6x528x128 .i32) (arg13 : Memref sig .tc .vmem S256x1536 .f32)
    (x0 : Vec F S1x2048x768 .i8) (x1 : Vec F S1x32x768 .i8) (x2 : Vec F S1x32x768 .i8)
    (x4 : Vec F S256x3 .f32) (x5 : Vec F S1x768 .f32) (x6 : Vec F S16x1536x768 .fp8e4m3)

/-- The run's term of tap `k`. -/
def runTerm (k : ℕ) : FVec F S256x1536 .f32 :=
  termAt (kernelRun0_A.sl.r c arg7 harg7 x5)
    (fun k h => View.readAt (Elt F) arg6.view (Rect.unit (s := S256x3) ![0, (k + 4) / 8] S256x1.size (inb_sig k h)).toLoadRect (harg6.unread x4))
    (fun k h => arg10.view.readCov (kernelRun0_A.sl.H8_768 c i arg2 harg2 arg3 harg3 arg4 harg4 arg12 x0 x1 x2)
      (Rect.unit (s := S16x256x768) ![k, 0, 0] S1x256x768.size (inb_plane k h)).toLoadRect)
    (fun k h => View.readAt (Elt F) arg8.view (Rect.unit (s := S16x1536x768) ![k, 0, 0] S1x1536x768.size (inb_tap k h)).toLoadRect (harg8.unread x6)) k

/-- The run's stores into the accumulator are the sixteen terms' sums. -/
theorem acc_eq :
    kernelRun0_A.sl.HS1_16 c i arg2 harg2 arg3 harg3 arg4 harg4 arg6 harg6 arg7 harg7 arg8 harg8 arg10 arg12 arg13 x0 x1 x2 x4 x5 x6 =
      accL arg13.view (runTerm c i arg2 harg2 arg3 harg3 arg4 harg4 arg6 harg6 arg7 harg7 arg8 harg8 arg10 arg12 x0 x1 x2 x4 x5 x6) 15 := by
  sl_kernel_rfl

/-- What the last load of the accumulator reads. -/
theorem v14199_eq :
    kernelRun0_A.sl.v14199 c i arg2 harg2 arg3 harg3 arg4 harg4 arg6 harg6 arg7 harg7 arg8 harg8 arg10 arg12 arg13 x0 x1 x2 x4 x5 x6 =
      accV (runTerm c i arg2 harg2 arg3 harg3 arg4 harg4 arg6 harg6 arg7 harg7 arg8 harg8 arg10 arg12 x0 x1 x2 x4 x5 x6) 15 := by
  refine Eq.trans ?_ (readCov_accL arg13.view _ 15)
  rw [← acc_eq]
  rfl

end Run

end Cert.KernelIdeal.Val

end
-- ==== Proof.DxBlock.lean ====
/-
  The three blocks the first pallas_call leaves at one grid point, at the extended reals.
-/
module

public import proofs.«01_k».proof.Proof.Taps

@[expose] public section

set_option maxRecDepth 16384

noncomputable section

namespace Cert.KernelIdeal.Val

open Cert.KernelIdeal Cert.KernelIdeal.Gen Cert.Bytes
open Idealize.ShloMosaic Idealize.ShloMosaic.TcCoe Idealize.ShloMosaic.Tactic Idealize.ShloMosaic.ValueIdx
open Idealize.SL Idealize.SL.RA Idealize.SL.BI Idealize.SL.Sem
open scoped BigOperators

/-- One tap's term at an index. -/
theorem tapTerm_apply (wsb : FVec Ideal S1x768 .bf16) (sg : Vec Ideal S256x1 .f32) (gm : Vec Ideal S1x256x768 .fp8e5m2)
    (w : Vec Ideal S1x1536x768 .fp8e4m3) (τ : Fin 256) (d : Fin 1536) :
    tapTerm wsb sg gm w (ix2 τ d) =
      ∑ o : Fin 768, (((gm (ix3 (0 : Fin 1) τ o) : EReal) * sg (ix2 τ (0 : Fin 1))) * wsb (ix2 (0 : Fin 1) o)) * w (ix3 (0 : Fin 1) d o) := by
  unfold tapTerm
  refine (Ideal.matmul_transposedRhs_apply (M := 256) (K := 768) (N := 1536) none _ _ _ τ d).trans ?_
  rw [show (constant S256x1536 .f32 0x00000000#32 : FVec Ideal S256x1536 .f32) (ix2 τ d) = 0 from Ideal.ofBits_zero_f32, zero_add]
  refine Finset.sum_congr rfl fun o _ => ?_
  rw [shapeCast_1ab_ab_apply w shapeCasts_S1x1536x768_S1536x768 d o]
  refine congrArg (fun z : EReal => z * (w (ix3 (0 : Fin 1) d o) : EReal)) ?_
  have e1 : (broadcastTo S256x768 wsb broadcasts_S1x768_S256x768 : FVec Ideal S256x768 .bf16) (ix2 τ o) = wsb (ix2 (0 : Fin 1) o) :=
    broadcastTo_1b_ab_apply wsb broadcasts_S1x768_S256x768 τ o
  have e2 : (broadcastTo S256x768 (truncf .bf16 (shapeCast S256x1 sg shapeCasts_S256x1_S256x1) bitsLt_bf16_f32) broadcasts_S256x1_S256x768 :
      FVec Ideal S256x768 .bf16) (ix2 τ o) = sg (ix2 τ (0 : Fin 1)) := by
    refine (broadcastTo_apply _ broadcasts_S256x1_S256x768 (ix2 τ o) (ix2 τ (0 : Fin 1)) fun ax => ?_).trans ?_
    · match ax with
      | ⟨0, _⟩ => rfl
      | ⟨1, _⟩ => rfl
    · rw [shapeCast_self]; rfl
  have e3 : (extf .bf16 (shapeCast S256x768 gm shapeCasts_S1x256x768_S256x768) bitsLt_fp8e5m2_bf16 : FVec Ideal S256x768 .bf16) (ix2 τ o)
      = gm (ix3 (0 : Fin 1) τ o) := shapeCast_1ab_ab_apply gm shapeCasts_S1x256x768_S256x768 τ o
  show ((_ : EReal) * _) * _ = _
  exact congrArg₂ (fun a b : EReal => a * b) (congrArg₂ (fun a b : EReal => a * b) e3 e2) e1

theorem accV_apply (T : ℕ → FVec Ideal S256x1536 .f32) (y : S256x1536.Idx) :
    ∀ n, accV T n y = ∑ k ∈ Finset.range (n + 1), (T k y : EReal)
  | 0 => by rw [Finset.sum_range_one]; rfl
  | n + 1 => by
      rw [Finset.sum_range_succ, ← accV_apply T y n]; rfl

/-- The input gradient's block of one grid point. -/
def dxAt (i : grid0.Coords) (x0 : Vec Ideal S1x2048x768 .i8) (x1 : Vec Ideal S1x32x768 .i8) (x2 : Vec Ideal S1x32x768 .i8)
    (x4 : Vec Ideal S256x3 .f32) (x5 : Vec Ideal S1x768 .f32) (x6 : Vec Ideal S16x1536x768 .fp8e4m3) (τ : Fin 256) (d : Fin 1536) : EReal :=
  ∑ k : Fin 16, ∑ o : Fin 768, (((planesAt (F := Ideal) i x0 x1 x2 (ix3 k τ o) : EReal) * x4 (ix2 τ (⟨(k.val + 4) / 8, by omega⟩ : Fin 3)))
    * x5 (ix2 (0 : Fin 1) o)) * x6 (ix3 k d o)

section Run
variable (c : Dev nD) (i : grid0.Coords) (arg2 : Memref sig .tc .vmem S1x2048x768 .i8) (harg2 : arg2.IsWhole)
    (arg3 : Memref sig .tc .vmem S1x32x768 .i8) (harg3 : arg3.IsWhole) (arg4 : Memref sig .tc .vmem S1x32x768 .i8) (harg4 : arg4.IsWhole)
    (arg5 : Memref sig .tc .vmem S1x256x1536 .bf16) (harg5 : arg5.IsWhole)
    (arg6 : Memref sig .tc .vmem S256x3 .f32) (harg6 : arg6.IsWhole) (arg7 : Memref sig .tc .vmem S1x768 .f32) (harg7 : arg7.IsWhole)
    (arg8 : Memref sig .tc .vmem S16x1536x768 .fp8e4m3) (harg8 : arg8.IsWhole) (arg9 : Memref sig .tc .vmem S1x256x1536 .bf16) (harg9 : arg9.IsWhole)
    (arg10 : Memref sig .tc .vmem S16x256x768 .fp8e5m2) (harg10 : arg10.IsWhole) (arg11 : Memref sig .tc .vmem S1536x256 .bf16) (harg11 : arg11.IsWhole)
    (arg12 : Memref sig .tc .vmem S6x528x128 .i32) (harg12 : arg12.IsWhole) (arg13 : Memref sig .tc .vmem S256x1536 .f32) (harg13 : arg13.IsWhole)

section Ideal
variable (x0 : Vec Ideal S1x2048x768 .i8) (x1 : Vec Ideal S1x32x768 .i8) (x2 : Vec Ideal S1x32x768 .i8) (x3 : Vec Ideal S1x256x1536 .bf16)
    (x4 : Vec Ideal S256x3 .f32) (x5 : Vec Ideal S1x768 .f32) (x6 : Vec Ideal S16x1536x768 .fp8e4m3)

/-- The run's term of tap `k` at an index. -/
theorem runTerm_apply (k : Fin 16) (τ : Fin 256) (d : Fin 1536) :
    (runTerm c i arg2 harg2 arg3 harg3 arg4 harg4 arg6 harg6 arg7 harg7 arg8 harg8 arg10 arg12 x0 x1 x2 x4 x5 x6 k.val (ix2 τ d) : EReal) =
      ∑ o : Fin 768, (((planesAt (F := Ideal) i x0 x1 x2 (ix3 k τ o) : EReal) * x4 (ix2 τ (⟨(k.val + 4) / 8, by omega⟩ : Fin 3)))
        * x5 (ix2 (0 : Fin 1) o)) * x6 (ix3 k d o) := by
  obtain ⟨k, hk⟩ := k
  have e : runTerm c i arg2 harg2 arg3 harg3 arg4 harg4 arg6 harg6 arg7 harg7 arg8 harg8 arg10 arg12 x0 x1 x2 x4 x5 x6 k
      = tapTerm (kernelRun0_A.sl.r c arg7 harg7 x5)
        (View.readAt (Elt Ideal) arg6.view (Rect.unit (s := S256x3) ![0, (k + 4) / 8] S256x1.size (inb_sig k hk)).toLoadRect (harg6.unread x4))
        (arg10.view.readCov (kernelRun0_A.sl.H8_768 c i arg2 harg2 arg3 harg3 arg4 harg4 arg12 x0 x1 x2)
          (Rect.unit (s := S16x256x768) ![k, 0, 0] S1x256x768.size (inb_plane k hk)).toLoadRect)
        (View.readAt (Elt Ideal) arg8.view (Rect.unit (s := S16x1536x768) ![k, 0, 0] S1x1536x768.size (inb_tap k hk)).toLoadRect (harg8.unread x6)) := by
    unfold runTerm termAt
    generalize Nat.decLt k 16 = D
    cases D with
    | isTrue h => rfl
    | isFalse h => exact absurd hk h
  rw [e, tapTerm_apply]
  refine Finset.sum_congr rfl fun o _ => ?_
  have f1 : (arg10.view.readCov (kernelRun0_A.sl.H8_768 c i arg2 harg2 arg3 harg3 arg4 harg4 arg12 x0 x1 x2)
      (Rect.unit (s := S16x256x768) ![k, 0, 0] S1x256x768.size (inb_plane k hk)).toLoadRect) (ix3 (0 : Fin 1) τ o)
      = planesAt (F := Ideal) i x0 x1 x2 (ix3 (⟨k, hk⟩ : Fin 16) τ o) := by
    rw [View.readCov_eq_canon']
    refine (View.canon_apply_of_pieces (planesAt (F := Ideal) i x0 x1 x2) _
      (H8_val c i arg2 harg2 arg3 harg3 arg4 harg4 arg12 x0 x1 x2) _ (H8_cover c i arg2 harg2 arg3 harg3 arg4 harg4 arg12 x0 x1 x2 _)).trans ?_
    congr 1
    funext a
    match a with
    | ⟨0, _⟩ => exact Fin.ext (by show k + 1 * 0 = k; omega)
    | ⟨1, _⟩ => exact Fin.ext ((Nat.zero_add _).trans (Nat.one_mul _))
    | ⟨2, _⟩ => exact Fin.ext ((Nat.zero_add _).trans (Nat.one_mul _))
  have f2 : View.readAt (Elt Ideal) arg6.view (Rect.unit (s := S256x3) ![0, (k + 4) / 8] S256x1.size (inb_sig k hk)).toLoadRect (harg6.unread x4)
      (ix2 τ (0 : Fin 1)) = x4 (ix2 τ (⟨(k + 4) / 8, by omega⟩ : Fin 3)) := by
    refine (harg6.readAt_unread x4 _ _).trans ?_
    congr 1
    funext a
    match a with
    | ⟨0, _⟩ => exact Fin.ext ((Nat.zero_add _).trans (Nat.one_mul _))
    | ⟨1, _⟩ => exact Fin.ext (by show (k + 4) / 8 + 1 * 0 = (k + 4) / 8; omega)
  have f3 : kernelRun0_A.sl.r c arg7 harg7 x5 (ix2 (0 : Fin 1) o) = x5 (ix2 (0 : Fin 1) o) := by
    refine (congrFun (shapeCast_self (View.readAt (Elt Ideal) arg7.view
      (Rect.unit (s := S1x768) ![0, 0] S1x768.size inb_S1x768_S1x768_0_0).toLoadRect (harg7.unread x5)) shapeCasts_S1x768_S1x768) (ix2 (0 : Fin 1) o)).trans ?_
    refine (harg7.readAt_unread x5 _ _).trans ?_
    congr 1
    funext a
    match a with
    | ⟨0, _⟩ => exact Fin.ext ((Nat.zero_add _).trans (Nat.one_mul _))
    | ⟨1, _⟩ => exact Fin.ext ((Nat.zero_add _).trans (Nat.one_mul _))
  have f4 : View.readAt (Elt Ideal) arg8.view (Rect.unit (s := S16x1536x768) ![k, 0, 0] S1x1536x768.size (inb_tap k hk)).toLoadRect (harg8.unread x6)
      (ix3 (0 : Fin 1) d o) = x6 (ix3 (⟨k, hk⟩ : Fin 16) d o) := by
    refine (harg8.readAt_unread x6 _ _).trans ?_
    congr 1
    funext a
    match a with
    | ⟨0, _⟩ => exact Fin.ext (by show k + 1 * 0 = k; omega)
    | ⟨1, _⟩ => exact Fin.ext ((Nat.zero_add _).trans (Nat.one_mul _))
    | ⟨2, _⟩ => exact Fin.ext ((Nat.zero_add _).trans (Nat.one_mul _))
  rw [f1, f2, f3, f4]

/-- The input gradient's block. -/
theorem out7_apply (u : Fin 1) (τ : Fin 256) (d : Fin 1536) :
    (out0_A_7 c i arg2 harg2 arg3 harg3 arg4 harg4 arg5 harg5 arg6 harg6 arg7 harg7 arg8 harg8 arg9 harg9 arg10 harg10 arg11 harg11 arg12 harg12
      arg13 harg13 x0 x1 x2 x3 x4 x5 x6 (ix3 u τ d) : EReal) = dxAt i x0 x1 x2 x4 x5 x6 τ d := by
  have e : out0_A_7 c i arg2 harg2 arg3 harg3 arg4 harg4 arg5 harg5 arg6 harg6 arg7 harg7 arg8 harg8 arg9 harg9 arg10 harg10 arg11 harg11 arg12 harg12
      arg13 harg13 x0 x1 x2 x3 x4 x5 x6 = VO0_7.read (Elt Ideal) (VO0_7.writes (Elt Ideal) VO0_7.junk
        [⟨Rect.unit ![0, 0, 0] S1x256x1536.size inb_S1x256x1536_S1x256x1536_0_0_0, k0_pay1 (kernelRun0_A.sl.v14199 c i arg2 harg2 arg3 harg3 arg4 harg4 arg6
          harg6 arg7 harg7 arg8 harg8 arg10 arg12 arg13 x0 x1 x2 x4 x5 x6)⟩]) := by
    sl_kernel_rfl
  rw [e, View.read_writes_junk_eq_canon, View.canon_unit_zero (by funext a; match a with | 0 => rfl | 1 => rfl | 2 => rfl), v14199_eq]
  show (shapeCast S1x256x1536 (truncf .bf16 (accV (runTerm c i arg2 harg2 arg3 harg3 arg4 harg4 arg6 harg6 arg7 harg7 arg8 harg8 arg10 arg12 x0 x1 x2 x4 x5 x6) 15)
    bitsLt_bf16_f32 : FVec Ideal S256x1536 .bf16) shapeCasts_S256x1536_S1x256x1536) (ix3 u τ d) = _
  refine (shapeCast_ab_1ab_apply _ shapeCasts_S256x1536_S1x256x1536 u τ d).trans ?_
  refine (accV_apply _ _ 15).trans ?_
  rw [Finset.sum_range]
  exact Finset.sum_congr rfl fun k _ => runTerm_apply c i arg2 harg2 arg3 harg3 arg4 harg4 arg6 harg6 arg7 harg7 arg8 harg8 arg10 arg12 x0 x1 x2 x4 x5 x6 k τ d

end Ideal

section Any
variable {F : FTy → Type} [FloatOps F]
    (x0 : Vec F S1x2048x768 .i8) (x1 : Vec F S1x32x768 .i8) (x2 : Vec F S1x32x768 .i8) (x3 : Vec F S1x256x1536 .bf16)
    (x4 : Vec F S256x3 .f32) (x5 : Vec F S1x768 .f32) (x6 : Vec F S16x1536x768 .fp8e4m3)

/-- The code planes' block. -/
theorem out8_apply (y : S16x256x768.Idx) :
    out0_A_8 c i arg2 harg2 arg3 harg3 arg4 harg4 arg5 harg5 arg6 harg6 arg7 harg7 arg8 harg8 arg9 harg9 arg10 harg10 arg11 harg11 arg12 harg12
      arg13 harg13 x0 x1 x2 x3 x4 x5 x6 y = planesAt i x0 x1 x2 y := by
  have e : out0_A_8 c i arg2 harg2 arg3 harg3 arg4 harg4 arg5 harg5 arg6 harg6 arg7 harg7 arg8 harg8 arg9 harg9 arg10 harg10 arg11 harg11 arg12 harg12
      arg13 harg13 x0 x1 x2 x3 x4 x5 x6 = VO0_8.read (Elt F) (VO0_8.writes (Elt F) VO0_8.junk
        (kernelRun0_A.sl.H8_768 c i arg2 harg2 arg3 harg3 arg4 harg4 arg12 x0 x1 x2)) := by
    sl_kernel_rfl
  rw [e]
  exact View.read_writes_apply_of_pieces VO0_8 VO0_8.junk (planesAt i x0 x1 x2) _ (H8_val c i arg2 harg2 arg3 harg3 arg4 harg4 arg12 x0 x1 x2) y
    (H8_cover c i arg2 harg2 arg3 harg3 arg4 harg4 arg12 x0 x1 x2 y)

/-- The transposed activations' block. -/
theorem out9_apply (d : Fin 1536) (τ : Fin 256) :
    out0_A_9 c i arg2 harg2 arg3 harg3 arg4 harg4 arg5 harg5 arg6 harg6 arg7 harg7 arg8 harg8 arg9 harg9 arg10 harg10 arg11 harg11 arg12 harg12
      arg13 harg13 x0 x1 x2 x3 x4 x5 x6 (ix2 d τ) = x3 (ix3 (0 : Fin 1) τ d) := by
  have e : out0_A_9 c i arg2 harg2 arg3 harg3 arg4 harg4 arg5 harg5 arg6 harg6 arg7 harg7 arg8 harg8 arg9 harg9 arg10 harg10 arg11 harg11 arg12 harg12
      arg13 harg13 x0 x1 x2 x3 x4 x5 x6 = VO0_9.read (Elt F) (VO0_9.writes (Elt F) VO0_9.junk
        [⟨Rect.unit ![0, 0] S1536x256.size inb_S1536x256_S1536x256_0_0, k0_pay2 (View.readAt (Elt F) arg5.view
          (Rect.unit (s := S1x256x1536) ![0, 0, 0] S1x256x1536.size inb_S1x256x1536_S1x256x1536_0_0_0).toLoadRect (harg5.unread x3))⟩]) := by
    sl_kernel_rfl
  rw [e, View.read_writes_junk_eq_canon, View.canon_unit_zero (by funext a; match a with | 0 => rfl | 1 => rfl), read_whole3]
  show transpose S1536x256 [1, 0] (shapeCast S256x1536 x3 shapeCasts_S1x256x1536_S256x1536) transposes_S256x1536_p1_0_S1536x256 (ix2 d τ) = _
  rw [transpose_ix2_apply]
  exact shapeCast_1ab_ab_apply x3 shapeCasts_S1x256x1536_S256x1536 τ d

end Any
end Run

end Cert.KernelIdeal.Val

end
-- ==== Proof.Halo.lean ====
/-
  The windows of the first pallas_call at one grid point: which frames a block holds, with the halo blocks.
-/
module

public import proofs.«01_k».proof.Proof.DxBlock
public import Idealize.ShloMosaic.Lib.Pipeline.ValueKit
public import Idealize.ShloMosaic.Lib.ValueIdxCoords

@[expose] public section

set_option maxRecDepth 16384

noncomputable section

namespace Cert.KernelIdeal.Val

open Cert.KernelIdeal Cert.KernelIdeal.Gen Cert.Bytes
open Idealize.ShloMosaic hiding ix1 ix2 ix3 ix4
open Idealize.ShloMosaic.TcCoe Idealize.ShloMosaic.Tactic Idealize.ShloMosaic.ValueIdx
open Idealize.SL Idealize.SL.RA Idealize.SL.BI Idealize.SL.Sem
open Idealize.ShloMosaic.Pipeline (Dat)
open scoped BigOperators

/-- The byte of padded position `s` (four positions before the first): zero outside the sequence. -/
def gByte (dy : IVec S4x16384x768 8) (b : Fin 4) (s : ℕ) (o : Fin 768) : BitVec 8 :=
  if h : 4 ≤ s ∧ s - 4 < 16384 then dy (ix3 b (⟨s - 4, h.2⟩ : Fin 16384) o) else 0

section Arr
variable {F : FTy → Type} [FloatOps F]

/-- The code array's element: plane `k`, frame `f` of the flattened batch, output channel `o`. -/
def gamG (dy : IVec S4x16384x768 8) (y : S16x8192x768.Idx) : F .fp8e5m2 :=
  have hf : (y 1).val < 8192 := (y 1).isLt
  FloatOps.ofBits .fp8e5m2 (gByte dy ⟨(y 1).val / 2048, by omega⟩ (8 * ((y 1).val % 2048) + (y 0).val) (y 2))

/-- The transposed input's element. -/
def xtG (x : Vec F S4x2048x1536 .bf16) (y : S1536x8192.Idx) : F .bf16 :=
  have hf : (y 1).val < 8192 := (y 1).isLt
  x (ix3 (⟨(y 1).val / 2048, by omega⟩ : Fin 4) (⟨(y 1).val % 2048, by omega⟩ : Fin 2048) (y 0))

variable (V : (c : Dev nD) → (b : Ref sig .tc) → Buf (Elt F) ((c : Thread nD τ).loc b))

theorem c0_lt (t : Fin cfg0.N) : (grid0.coords t 0).val < 4 := (grid0.coords t 0).isLt
theorem c1_lt (t : Fin cfg0.N) : (grid0.coords t 1).val < 8 := (grid0.coords t 1).isLt

theorem idx0_0 : ∀ t : Fin cfg0.N, win0_0.index t = ![(grid0.coords t 0).val, (grid0.coords t 1).val, 0] :=
  (by decide +kernel : ∀ t : Fin grid0.N, _)
theorem idx0_1 : ∀ t : Fin cfg0.N, win0_1.index t = ![(grid0.coords t 0).val, (grid0.coords t 1).val * 64 - 1, 0] :=
  (by decide +kernel : ∀ t : Fin grid0.N, _)
theorem idx0_2 : ∀ t : Fin cfg0.N, win0_2.index t = ![(grid0.coords t 0).val, min ((grid0.coords t 1).val * 64 + 64) 511, 0] :=
  (by decide +kernel : ∀ t : Fin grid0.N, _)
theorem idx0_3 : ∀ t : Fin cfg0.N, win0_3.index t = ![(grid0.coords t 0).val, (grid0.coords t 1).val, 0] :=
  (by decide +kernel : ∀ t : Fin grid0.N, _)
theorem idx0_4 : ∀ t : Fin cfg0.N, win0_4.index t = ![(grid0.coords t 0).val * 8 + (grid0.coords t 1).val, 0] :=
  (by decide +kernel : ∀ t : Fin grid0.N, _)
theorem idx0_5 : ∀ t : Fin cfg0.N, win0_5.index t = ![0, 0] :=
  (by decide +kernel : ∀ t : Fin grid0.N, _)
theorem idx0_6 : ∀ t : Fin cfg0.N, win0_6.index t = ![0, 0, 0] :=
  (by decide +kernel : ∀ t : Fin grid0.N, _)
theorem idx0_7 : ∀ t : Fin cfg0.N, win0_7.index t = ![(grid0.coords t 0).val, (grid0.coords t 1).val, 0] :=
  (by decide +kernel : ∀ t : Fin grid0.N, _)
theorem idx0_8 : ∀ t : Fin cfg0.N, win0_8.index t = ![0, (grid0.coords t 0).val * 8 + (grid0.coords t 1).val, 0] :=
  (by decide +kernel : ∀ t : Fin grid0.N, _)
theorem idx0_9 : ∀ t : Fin cfg0.N, win0_9.index t = ![0, (grid0.coords t 0).val * 8 + (grid0.coords t 1).val] :=
  (by decide +kernel : ∀ t : Fin grid0.N, _)

/-- The byte the block's planes read is the padded sequence's. -/
theorem extByte_eq (c : Dev nD) (t : Fin cfg0.N) (σ : Fin 2112) (o : Fin 768) (s : ℕ) (hs : s + 28 = (grid0.coords t 1).val * 2048 + σ.val)
    (hσ : 28 ≤ σ.val) :
    extByte (F := F) (grid0.coords t) (iblk0 V c 0 t) (iblk0 V c 1 t) (iblk0 V c 2 t) σ o
      = gByte (V c main_arg1) (grid0.coords t 0) s o := by
  have h0 := c0_lt t
  have h1 := c1_lt t
  have hσ' := σ.isLt
  unfold extByte gByte
  split
  · rename_i h
    split
    · rename_i hz
      rw [dif_neg (show ¬(4 ≤ s ∧ s - 4 < 16384) by omega)]
    · rename_i hz
      rw [dif_pos (show 4 ≤ s ∧ s - 4 < 16384 by omega)]
      blk_simp [iblk0]
      congr 1
      blk_ext [idx0_1]
  · rename_i h
    split
    · rename_i h2
      rw [dif_pos (show 4 ≤ s ∧ s - 4 < 16384 by omega)]
      blk_simp [iblk0]
      congr 1
      blk_ext [idx0_0]
    · rename_i h2
      split
      · rename_i hz
        rw [dif_neg (show ¬(4 ≤ s ∧ s - 4 < 16384) by omega)]
      · rename_i hz
        rw [dif_pos (show 4 ≤ s ∧ s - 4 < 16384 by omega)]
        blk_simp [iblk0]
        congr 1
        blk_ext [idx0_2]

/-- The block's planes are the code array's. -/
theorem planes_gam (c : Dev nD) (t : Fin cfg0.N) (k : Fin 16) (τ' : Fin 256) (o : Fin 768) (f : Fin 8192)
    (hf : f.val = ((grid0.coords t 0).val * 8 + (grid0.coords t 1).val) * 256 + τ'.val) :
    planesAt (F := F) (grid0.coords t) (iblk0 V c 0 t) (iblk0 V c 1 t) (iblk0 V c 2 t) (ix3 k τ' o)
      = gamG (F := F) (V c main_arg1) (ix3 k f o) := by
  have h0 := c0_lt t
  have h1 := c1_lt t
  have hk := k.isLt
  have ht := τ'.isLt
  have hf' := f.isLt
  have e : extByte (F := F) (grid0.coords t) (iblk0 V c 0 t) (iblk0 V c 1 t) (iblk0 V c 2 t) (⟨28 + 8 * τ'.val + k.val, by omega⟩ : Fin 2112) o
      = gByte (V c main_arg1) (grid0.coords t 0) (8 * (f.val % 2048) + k.val) o :=
    extByte_eq V c t _ o _ (by show _ = _ + (28 + 8 * τ'.val + k.val); omega) (by show 28 ≤ 28 + 8 * τ'.val + k.val; omega)
  have eb : (grid0.coords t 0) = (⟨f.val / 2048, by omega⟩ : Fin 4) := Fin.ext (by
    show (grid0.coords t 0).val = f.val / 2048
    omega)
  rw [eb] at e
  exact congrArg (FloatOps.ofBits (F := F) .fp8e5m2) e

end Arr

end Cert.KernelIdeal.Val

end
-- ==== Proof.Arrays0.lean ====
/-
  The three arrays the first pallas_call leaves, from the arrays it finds.
-/
module

public import proofs.«01_k».proof.Proof.Halo
public import Idealize.ShloMosaic.Lib.Pipeline.ValueKit
public import Idealize.ShloMosaic.Lib.ValueIdxCoords

@[expose] public section

set_option maxRecDepth 16384

noncomputable section

namespace Cert.KernelIdeal.Val

open Cert.KernelIdeal Cert.KernelIdeal.Gen Cert.Bytes
open Idealize.ShloMosaic hiding ix1 ix2 ix3 ix4
open Idealize.ShloMosaic.TcCoe Idealize.ShloMosaic.Tactic Idealize.ShloMosaic.ValueIdx
open Idealize.SL Idealize.SL.RA Idealize.SL.BI Idealize.SL.Sem
open Idealize.ShloMosaic.Pipeline (Dat)
open scoped BigOperators

section Arr
variable {F : FTy → Type} [FloatOps F]
variable (V : (c : Dev nD) → (b : Ref sig .tc) → Buf (Elt F) ((c : Thread nD τ).loc b))

theorem after8_apply (c : Dev nD) (t : Fin cfg0.N) (y : S16x256x768.Idx) :
    (outsAt0 V c t).2.1 y = planesAt (F := F) (grid0.coords t) (iblk0 V c 0 t) (iblk0 V c 1 t) (iblk0 V c 2 t) y := by
  dsimp only [outsAt0]
  exact out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) y

theorem after9_apply (c : Dev nD) (t : Fin cfg0.N) (d : Fin 1536) (τ' : Fin 256) :
    (outsAt0 V c t).2.2 (ix2 d τ') = (iblk0 V c 3 t : Vec F S1x256x1536 .bf16) (ix3 (0 : Fin 1) τ' d) := by
  dsimp only [outsAt0]
  exact out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) d τ'

/-- The code array after the first pallas_call. -/
theorem arr8 (c : Dev nD) : (dat0 V c).arrAt 8 cfg0.N = gamG (F := F) (V c main_arg1) := by
  refine (dat0 V c).arrAt_eq_of_covers 8 _ (by decide +kernel) fun t hf y => ?_
  have h0 := c0_lt t
  have h1 := c1_lt t
  blk_simp
  rw [after0_8]
  obtain ⟨k, τ', o, rfl⟩ : ∃ (k : Fin 16) (τ' : Fin 256) (o : Fin 768), y = ix3 k τ' o := ⟨y 0, y 1, y 2, ValueIdx.eq_ix3 y⟩
  have ht := τ'.isLt
  refine (after8_apply V c t _).trans ((planes_gam V c t k τ' o
    ⟨((grid0.coords t 0).val * 8 + (grid0.coords t 1).val) * 256 + τ'.val, by omega⟩ rfl).trans (congrArg (gamG (F := F) (V c main_arg1)) ?_))
  funext a
  match a with
  | ⟨0, _⟩ => exact Fin.ext (by blk_simp [idx0_8])
  | ⟨1, _⟩ => exact Fin.ext (by blk_simp [idx0_8])
  | ⟨2, _⟩ => exact Fin.ext (by blk_simp [idx0_8])

/-- The transposed input after the first pallas_call. -/
theorem arr9 (c : Dev nD) : (dat0 V c).arrAt 9 cfg0.N = xtG (F := F) (V c main_arg0) := by
  refine (dat0 V c).arrAt_eq_of_covers 9 _ (by decide +kernel) fun t hf y => ?_
  have h0 := c0_lt t
  have h1 := c1_lt t
  blk_simp
  rw [after0_9]
  obtain ⟨d, τ', rfl⟩ : ∃ (d : Fin 1536) (τ' : Fin 256), y = ix2 d τ' := ⟨y 0, y 1, ValueIdx.eq_ix2 y⟩
  have hτ := τ'.isLt
  refine (after9_apply V c t d τ').trans ?_
  have e0 : (((cfg0.win 9).blk t).view.emb (ix2 d τ')) 0 = d := Fin.ext (by blk_simp [idx0_9]; rfl)
  have e1 : ((((cfg0.win 9).blk t).view.emb (ix2 d τ')) 1).val = ((grid0.coords t 0).val * 8 + (grid0.coords t 1).val) * 256 + τ'.val := by
    blk_simp [idx0_9]; rfl
  have ex : ∀ (p : S4x2048x1536.Idx) (q : S1536x8192.Idx), (p 0).val = (q 1).val / 2048 → (p 1).val = (q 1).val % 2048 → (p 2).val = (q 0).val →
      (V c main_arg0 : Vec F S4x2048x1536 .bf16) p = xtG (F := F) (V c main_arg0) q := by
    intro p q q0 q1 q2
    unfold xtG
    congr 1
    funext a
    match a with
    | ⟨0, _⟩ => exact Fin.ext q0
    | ⟨1, _⟩ => exact Fin.ext q1
    | ⟨2, _⟩ => exact Fin.ext q2
  blk_simp [iblk0]
  refine ex _ _ ?_ ?_ ?_
  · refine Eq.trans ?_ (congrArg (· / 2048) e1.symm)
    blk_simp [idx0_3]
    omega
  · refine Eq.trans ?_ (congrArg (· % 2048) e1.symm)
    blk_simp [idx0_3]
    show (grid0.coords t 1).val * 256 + τ'.val = _
    dsimp only
    omega
  · refine Eq.trans ?_ (congrArg Fin.val e0.symm)
    blk_simp [idx0_3]

end Arr

end Cert.KernelIdeal.Val

end
-- ==== Proof.DxArray.lean ====
/-
  The input gradient the first pallas_call leaves, from the arrays it finds, at the extended reals.
-/
module

public import proofs.«01_k».proof.Proof.Arrays0
public import Idealize.ShloMosaic.Lib.Pipeline.ValueKit
public import Idealize.ShloMosaic.Lib.ValueIdxCoords

@[expose] public section

set_option maxRecDepth 16384

noncomputable section

namespace Cert.KernelIdeal.Val

open Cert.KernelIdeal Cert.KernelIdeal.Gen Cert.Bytes
open Idealize.ShloMosaic hiding ix1 ix2 ix3 ix4
open Idealize.ShloMosaic.TcCoe Idealize.ShloMosaic.Tactic Idealize.ShloMosaic.ValueIdx
open Idealize.SL Idealize.SL.RA Idealize.SL.BI Idealize.SL.Sem
open Idealize.ShloMosaic.Pipeline (Dat)
open scoped BigOperators

/-- Frame `t` of sequence `b` in the flattened batch. -/
def flat (b : Fin 4) (t : Fin 2048) : Fin 8192 := ⟨2048 * b.val + t.val, by omega⟩

/-- The input gradient's element. -/
def dxG (dy : IVec S4x16384x768 8) (sT : Vec Ideal S8192x3 .f32) (ws : Vec Ideal S1x768 .f32) (w : Vec Ideal S16x1536x768 .fp8e4m3)
    (y : S4x2048x1536.Idx) : EReal :=
  ∑ k : Fin 16, ∑ o : Fin 768, (((gamG (F := Ideal) dy (ix3 k (flat (y 0) (y 1)) o) : EReal) * sT (ix2 (flat (y 0) (y 1)) (⟨(k.val + 4) / 8, by omega⟩ : Fin 3)))
    * ws (ix2 (0 : Fin 1) o)) * w (ix3 k (y 2) o)

section Arr
variable (V : (c : Dev nD) → (b : Ref sig .tc) → Buf (Elt Ideal) ((c : Thread nD τ).loc b))

theorem after7_apply (c : Dev nD) (t : Fin cfg0.N) (u : Fin 1) (τ' : Fin 256) (d : Fin 1536) :
    ((outsAt0 V c t).1 (ix3 u τ' d) : EReal) = dxAt (grid0.coords t) (iblk0 V c 0 t) (iblk0 V c 1 t) (iblk0 V c 2 t)
      (iblk0 V c 4 t) (iblk0 V c 5 t) (iblk0 V c 6 t) τ' d := by
  dsimp only [outsAt0]
  exact out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)  (iblk0 V c 0 t) (iblk0 V c 1 t) (iblk0 V c 2 t) (iblk0 V c 3 t) (iblk0 V c 4 t) (iblk0 V c 5 t) (iblk0 V c 6 t) u τ' d

/-- The scales' block. -/
theorem sig_block (c : Dev nD) (t : Fin cfg0.N) (τ' : Fin 256) (j : Fin 3) (f : Fin 8192)
    (hf : f.val = ((grid0.coords t 0).val * 8 + (grid0.coords t 1).val) * 256 + τ'.val) :
    (iblk0 V c 4 t : Vec Ideal S256x3 .f32) (ix2 τ' j) = (V c main_v10 : Vec Ideal S8192x3 .f32) (ix2 f j) := by
  blk_simp [iblk0]
  refine congrArg (V c main_v10 : Vec Ideal S8192x3 .f32) (funext fun a => ?_)
  match a with
  | ⟨0, _⟩ => exact Fin.ext (by blk_simp [idx0_4]; exact hf.symm)
  | ⟨1, _⟩ => exact Fin.ext (by blk_simp [idx0_4])

/-- The weights' scales' block is the whole row. -/
theorem ws_block (c : Dev nD) (t : Fin cfg0.N) (u : Fin 1) (o : Fin 768) :
    (iblk0 V c 5 t : Vec Ideal S1x768 .f32) (ix2 u o) = (V c main_v11 : Vec Ideal S1x768 .f32) (ix2 u o) := by
  blk_simp [iblk0]
  refine congrArg (V c main_v11 : Vec Ideal S1x768 .f32) (funext fun a => ?_)
  match a with
  | ⟨0, _⟩ => exact Fin.ext (by blk_simp [idx0_5])
  | ⟨1, _⟩ => exact Fin.ext (by blk_simp [idx0_5])

/-- The weights' block is the whole array. -/
theorem w_block (c : Dev nD) (t : Fin cfg0.N) (k : Fin 16) (d : Fin 1536) (o : Fin 768) :
    (iblk0 V c 6 t : Vec Ideal S16x1536x768 .fp8e4m3) (ix3 k d o) = (V c main_arg3 : Vec Ideal S16x1536x768 .fp8e4m3) (ix3 k d o) := by
  blk_simp [iblk0]
  refine congrArg (V c main_arg3 : Vec Ideal S16x1536x768 .fp8e4m3) (funext fun a => ?_)
  match a with
  | ⟨0, _⟩ => exact Fin.ext (by blk_simp [idx0_6])
  | ⟨1, _⟩ => exact Fin.ext (by blk_simp [idx0_6])
  | ⟨2, _⟩ => exact Fin.ext (by blk_simp [idx0_6])

/-- The input gradient after the first pallas_call. -/
theorem arr7 (c : Dev nD) : (dat0 V c).arrAt 7 cfg0.N = dxG (V c main_arg1) (V c main_v10) (V c main_v11) (V c main_arg3) := by
  refine (dat0 V c).arrAt_eq_of_covers 7 _ (by decide +kernel) fun t hf y => ?_
  have h0 := c0_lt t
  have h1 := c1_lt t
  blk_simp
  rw [after0_7]
  obtain ⟨u, τ', d, rfl⟩ : ∃ (u : Fin 1) (τ' : Fin 256) (d : Fin 1536), y = ix3 u τ' d := ⟨y 0, y 1, y 2, ValueIdx.eq_ix3 y⟩
  have hu := u.isLt
  have ht := τ'.isLt
  refine (after7_apply V c t u τ' d).trans ?_
  let f : Fin 8192 := ⟨((grid0.coords t 0).val * 8 + (grid0.coords t 1).val) * 256 + τ'.val, by omega⟩
  have key : ∀ q : S4x2048x1536.Idx, (q 0).val = (grid0.coords t 0).val → (q 1).val = (grid0.coords t 1).val * 256 + τ'.val → q 2 = d →
      dxAt (grid0.coords t) (iblk0 V c 0 t) (iblk0 V c 1 t) (iblk0 V c 2 t) (iblk0 V c 4 t) (iblk0 V c 5 t) (iblk0 V c 6 t) τ' d
        = dxG (V c main_arg1) (V c main_v10) (V c main_v11) (V c main_arg3) q := by
    intro q q0 q1 q2
    have hq : flat (q 0) (q 1) = f := Fin.ext (by
      show 2048 * (q 0).val + (q 1).val = ((grid0.coords t 0).val * 8 + (grid0.coords t 1).val) * 256 + τ'.val
      rw [q0, q1]; omega)
    unfold dxAt dxG
    rw [hq, q2]
    refine Finset.sum_congr rfl fun k _ => Finset.sum_congr rfl fun o _ => ?_
    rw [planes_gam V c t k τ' o f rfl, sig_block V c t τ' _ f rfl, ws_block, w_block]
  refine key _ ?_ ?_ ?_
  · blk_simp [idx0_7]
  · blk_simp [idx0_7]
  · exact Fin.ext (by blk_simp [idx0_7])

end Arr

end Cert.KernelIdeal.Val

end
-- ==== Proof.HostSig.lean ====
/-
  The scale arrays the kernel's host operations build before the first pallas_call, read at an index.
-/
module

public import proofs.«01_k».proof.Proof.DxArray
public import Idealize.ShloMosaic.Lib.StableHlo.RunRead

@[expose] public section

set_option maxRecDepth 16384

noncomputable section

namespace Cert.KernelIdeal.Val

open Cert.KernelIdeal Cert.KernelIdeal.Gen Cert.Bytes
open Idealize.ShloMosaic hiding ix1 ix2 ix3 ix4
open Idealize.ShloMosaic.TcCoe Idealize.ShloMosaic.Tactic Idealize.ShloMosaic.ValueIdx
open Idealize.SL Idealize.SL.RA Idealize.SL.BI Idealize.SL.Sem

variable {F : FTy → Type} [FloatOps F]

/-- A column of zeros, one per sequence. -/
def zCol : FVec F S4x1 .f32 := broadcastInDim S4x1 ![] bcast_S_S4x1 (constant S_ .f32 0x00000000#32)

/-- The scales one frame later: frame `t` has frame `t - 1`'s. -/
def sigPrev (sc : FVec F S4x2048 .f32) : FVec F S4x2048 .f32 :=
  concatenate S4x2048 1 [⟨S4x1, zCol⟩, ⟨S4x2047, extractStridedSlice S4x2047 ![0, 0] sc slices_S4x2048_S4x2047_0_0⟩] concatenates_S4x1_S4x2047_S4x2048_d1

/-- The scales one frame earlier: frame `t` has frame `t + 1`'s. -/
def sigNext (sc : FVec F S4x2048 .f32) : FVec F S4x2048 .f32 :=
  concatenate S4x2048 1 [⟨S4x2047, extractStridedSlice S4x2047 ![0, 1] sc slices_S4x2048_S4x2047_0_1⟩, ⟨S4x1, zCol⟩] concatenates_S4x2047_S4x1_S4x2048_d1

/-- Three rows of scales, stacked. -/
def stack3 (a b c : FVec F S1x4x2048 .f32) : FVec F S3x4x2048 .f32 :=
  concatenate S3x4x2048 0 [⟨S1x4x2048, a⟩, ⟨S1x4x2048, b⟩, ⟨S1x4x2048, c⟩] concatenates_S1x4x2048_S1x4x2048_S1x4x2048_S3x4x2048_d0

/-- One row of scales with a leading unit axis. -/
def row1 (a : FVec F S4x2048 .f32) : FVec F S1x4x2048 .f32 := broadcastInDim S1x4x2048 ![1, 2] bcast_S4x2048_S1x4x2048_1_2 a

/-- The three rows of scales over the flattened batch. -/
def sigHost (sc : FVec F S4x2048 .f32) : FVec F S3x8192 .f32 :=
  shapeCast S3x8192 (stack3 (row1 (sigPrev sc)) (row1 sc) (row1 (sigNext sc))) shapeCasts_S3x4x2048_S3x8192

theorem after_v9 (V : Valuation τ sig (Elt F)) : StableHlo.after hostOps0 V (Proc.devRef .tc main_v9)
    = sigHost (V (Proc.devRef .tc main_arg2)) := by
  after_reads_simp
  show shapeCast S3x8192 (stack3 (StableHlo.upto hostOps0 V 9 (Proc.devRef .tc main_v5)) (StableHlo.upto hostOps0 V 9 (Proc.devRef .tc main_v6))
    (StableHlo.upto hostOps0 V 9 (Proc.devRef .tc main_v7))) shapeCasts_S3x4x2048_S3x8192 = _
  after_reads_simp
  rfl

theorem after_v10 (V : Valuation τ sig (Elt F)) : StableHlo.after hostOps0 V (Proc.devRef .tc main_v10)
    = transpose S8192x3 [1, 0] (sigHost (V (Proc.devRef .tc main_arg2))) transposes_S3x8192_S8192x3_1_0 := by
  after_reads_simp
  show transpose S8192x3 [1, 0] (shapeCast S3x8192 (stack3 (StableHlo.upto hostOps0 V 9 (Proc.devRef .tc main_v5)) (StableHlo.upto hostOps0 V 9 (Proc.devRef .tc main_v6))
    (StableHlo.upto hostOps0 V 9 (Proc.devRef .tc main_v7))) shapeCasts_S3x4x2048_S3x8192) transposes_S3x8192_S8192x3_1_0 = _
  after_reads_simp
  rfl

theorem after_v11 (V : Valuation τ sig (Elt F)) : StableHlo.after hostOps0 V (Proc.devRef .tc main_v11)
    = shapeCast S1x768 (V (Proc.devRef .tc main_arg4) : FVec F S768 .f32) shapeCasts_S768_S1x768 := by
  after_reads_simp
  rfl

theorem zCol_apply (j : S4x1.Idx) : zCol (F := F) j = FloatOps.ofBits .f32 0x00000000#32 := by
  unfold zCol
  rfl

theorem sigPrev_zero (sc : FVec F S4x2048 .f32) (b : Fin 4) (t : Fin 2048) (h : t.val = 0) :
    sigPrev sc (ix2 b t) = FloatOps.ofBits .f32 0x00000000#32 := by
  unfold sigPrev
  refine (concatenate_pair_apply_left (s₁ := S4x1) (s₂ := S4x2047) (t := S4x2048) 1 _ _ _ (ix2 b t) rfl (ix2 b (0 : Fin 1)) fun a => ?_).trans (zCol_apply _)
  match a with
  | ⟨0, _⟩ => rfl
  | ⟨1, _⟩ => exact h.symm

theorem sigPrev_succ (sc : FVec F S4x2048 .f32) (b : Fin 4) (t t' : Fin 2048) (h : t.val = t'.val + 1) :
    sigPrev sc (ix2 b t) = sc (ix2 b t') := by
  unfold sigPrev
  refine (concatenate_pair_apply_right (s₁ := S4x1) (s₂ := S4x2047) (t := S4x2048) 1 _ _ _ (ix2 b t) rfl rfl (ix2 b (⟨t'.val, by omega⟩ : Fin 2047)) (fun a ha => ?_) ?_).trans ?_
  · match a with
    | ⟨0, _⟩ => rfl
    | ⟨1, _⟩ => exact absurd rfl ha
  · exact h.symm
  · refine extractStridedSlice_apply _ sc _ _ (ix2 b t') fun a => ?_
    match a with
    | ⟨0, _⟩ => exact (Nat.zero_add _).symm
    | ⟨1, _⟩ => exact (Nat.zero_add _).symm

theorem sigNext_last (sc : FVec F S4x2048 .f32) (b : Fin 4) (t : Fin 2048) (h : t.val = 2047) :
    sigNext sc (ix2 b t) = FloatOps.ofBits .f32 0x00000000#32 := by
  unfold sigNext
  refine (concatenate_pair_apply_right (s₁ := S4x2047) (s₂ := S4x1) (t := S4x2048) 1 _ _ _ (ix2 b t) rfl rfl (ix2 b (0 : Fin 1)) (fun a ha => ?_) ?_).trans (zCol_apply _)
  · match a with
    | ⟨0, _⟩ => rfl
    | ⟨1, _⟩ => exact absurd rfl ha
  · exact h.symm

theorem sigNext_succ (sc : FVec F S4x2048 .f32) (b : Fin 4) (t t' : Fin 2048) (h : t'.val = t.val + 1) :
    sigNext sc (ix2 b t) = sc (ix2 b t') := by
  unfold sigNext
  refine (concatenate_pair_apply_left (s₁ := S4x2047) (s₂ := S4x1) (t := S4x2048) 1 _ _ _ (ix2 b t) rfl (ix2 b (⟨t.val, by omega⟩ : Fin 2047)) fun a => ?_).trans ?_
  · match a with
    | ⟨0, _⟩ => rfl
    | ⟨1, _⟩ => rfl
  · refine extractStridedSlice_apply _ sc _ _ (ix2 b t') fun a => ?_
    match a with
    | ⟨0, _⟩ => exact (Nat.zero_add _).symm
    | ⟨1, _⟩ => exact h.trans (Nat.add_comm _ _)

theorem row1_apply (a : FVec F S4x2048 .f32) (u : Fin 1) (b : Fin 4) (t : Fin 2048) : row1 a (ix3 u b t) = a (ix2 b t) := by
  unfold row1
  refine broadcastInDim_apply _ _ a _ (ix2 b t) fun e => ?_
  match e with
  | ⟨0, _⟩ => rfl
  | ⟨1, _⟩ => rfl

theorem stack3_apply (a b c : FVec F S1x4x2048 .f32) (j : Fin 3) (n : Fin 4) (t : Fin 2048) :
    stack3 a b c (ix3 j n t) = (match j with | 0 => a | 1 => b | 2 => c) (ix3 (0 : Fin 1) n t) := by
  unfold stack3
  match j with
  | 0 =>
    refine concatenate_apply_piece (t := S3x4x2048) 0 _ _ _ 0 (by simp) S1x4x2048 a rfl rfl 0 rfl (ix3 (0 : Fin 1) n t) (fun e he => ?_) rfl
    match e with
    | ⟨0, _⟩ => exact absurd rfl he
    | ⟨1, _⟩ => rfl
    | ⟨2, _⟩ => rfl
  | 1 =>
    refine concatenate_apply_piece (t := S3x4x2048) 0 _ _ _ 1 (by simp) S1x4x2048 b rfl rfl 1 rfl (ix3 (0 : Fin 1) n t) (fun e he => ?_) rfl
    match e with
    | ⟨0, _⟩ => exact absurd rfl he
    | ⟨1, _⟩ => rfl
    | ⟨2, _⟩ => rfl
  | 2 =>
    refine concatenate_apply_piece (t := S3x4x2048) 0 _ _ _ 2 (by simp) S1x4x2048 c rfl rfl 2 rfl (ix3 (0 : Fin 1) n t) (fun e he => ?_) rfl
    match e with
    | ⟨0, _⟩ => exact absurd rfl he
    | ⟨1, _⟩ => rfl
    | ⟨2, _⟩ => rfl

/-- Row `j`, frame `t` of sequence `b`. -/
theorem sigHost_apply (sc : FVec F S4x2048 .f32) (j : Fin 3) (b : Fin 4) (t : Fin 2048) :
    sigHost sc (ix2 j (flat b t)) = (match j with | 0 => sigPrev sc | 1 => sc | 2 => sigNext sc) (ix2 b t) := by
  unfold sigHost
  refine (shapeCast_apply _ _ _ (ix3 j b t) ?_).trans ((stack3_apply _ _ _ j b t).trans ?_)
  · rw [Shape.rowMajor_val_three, Shape.rowMajor_val_two]
    show (j.val * 4 + b.val) * 2048 + t.val = j.val * 8192 + (2048 * b.val + t.val)
    omega
  · match j with
    | 0 => exact row1_apply _ _ _ _
    | 1 => exact row1_apply _ _ _ _
    | 2 => exact row1_apply _ _ _ _

theorem sigT_apply (sc : FVec F S4x2048 .f32) (f : Fin 8192) (j : Fin 3) :
    (transpose S8192x3 [1, 0] (sigHost sc) transposes_S3x8192_S8192x3_1_0 : FVec F S8192x3 .f32) (ix2 f j) = sigHost sc (ix2 j f) :=
  transpose_ix2_apply _ transposes_S3x8192_S8192x3_1_0 f j

theorem ws1_apply (ws : FVec F S768 .f32) (u : Fin 1) (o : Fin 768) :
    (shapeCast S1x768 ws shapeCasts_S768_S1x768 : FVec F S1x768 .f32) (ix2 u o) = ws (ix1 o) :=
  shapeCast_a_1a_apply ws shapeCasts_S768_S1x768 u o

end Cert.KernelIdeal.Val

end
-- ==== Proof.DwBlock.lean ====
/-
  The block of the weight gradient the second pallas_call leaves at one grid point, at the extended reals:
  the loop's eight trips add up one sum over all 8192 frames.
-/
module

public import proofs.«01_k».proof.Proof.Taps
public import Idealize.ShloMosaic.Lib.WritesUnit

@[expose] public section

set_option maxRecDepth 16384

noncomputable section

namespace Cert.KernelIdeal.Val

open Cert.KernelIdeal Cert.KernelIdeal.Gen Cert.Bytes
open Idealize.ShloMosaic Idealize.ShloMosaic.TcCoe Idealize.ShloMosaic.Tactic Idealize.ShloMosaic.ValueIdx
open Idealize.SL Idealize.SL.RA Idealize.SL.BI Idealize.SL.Sem
open scoped BigOperators

/-- Row of the scales that tap `k` reads: the previous, the same or the next frame's. -/
def sigRow (k : ℕ) : Fin 3 := if k < 4 then 0 else if k < 12 then 1 else 2

/-- The product of one trip at an index: the products over the trip's 1024 frames. -/
theorem pay2_apply (v10 : Vec Ideal S1x1024 .f32) (v15 : Vec Ideal S1536x1024 .bf16) (v19 : Vec Ideal S1x1536x256 .f32)
    (v23 : Vec Ideal S1x1024x256 .fp8e5m2) (u : Fin 1) (d : Fin 1536) (o : Fin 256) :
    (k1_pay2 v10 v15 v19 v23 (ix3 u d o) : EReal) =
      v19 (ix3 (0 : Fin 1) d o) + ∑ f : Fin 1024, ((v15 (ix2 d f) : EReal) * v10 (ix2 (0 : Fin 1) f)) * v23 (ix3 (0 : Fin 1) f o) := by
  unfold k1_pay2
  rw [shapeCast_ab_1ab_apply]
  have hs : (shapeCast S1536x256 v19 shapeCasts_S1x1536x256_S1536x256 : FVec Ideal S1536x256 .f32) (ix2 d o) = v19 (ix3 (0 : Fin 1) d o) :=
    shapeCast_1ab_ab_apply v19 shapeCasts_S1x1536x256_S1536x256 d o
  refine congrArg₂ (fun a b : EReal => a + b) hs ?_
  refine (Ideal.matmul_plain_apply (M := 1536) (K := 1024) (N := 256) none _ _ _ d o).trans ?_
  rw [show (constant S1536x256 .f32 0x00000000#32 : FVec Ideal S1536x256 .f32) (ix2 d o) = 0 from Ideal.ofBits_zero_f32, zero_add]
  refine Finset.sum_congr rfl fun f _ => ?_
  have e1 : (shapeCast S1536x1024 v15 shapeCasts_S1536x1024_S1536x1024 : FVec Ideal S1536x1024 .bf16) (ix2 d f) = v15 (ix2 d f) := by
    rw [shapeCast_self]
  have e2 : (broadcastTo S1536x1024 (truncf .bf16 (shapeCast S1x1024 v10 shapeCasts_S1x1024_S1x1024) bitsLt_bf16_f32) broadcasts_S1x1024_S1536x1024 :
      FVec Ideal S1536x1024 .bf16) (ix2 d f) = v10 (ix2 (0 : Fin 1) f) := by
    refine (broadcastTo_1b_ab_apply _ broadcasts_S1x1024_S1536x1024 d f).trans ?_
    rw [shapeCast_self]; rfl
  have e3 : (shapeCast S1024x256 v23 shapeCasts_S1x1024x256_S1024x256 : FVec Ideal S1024x256 .fp8e5m2) (ix2 f o) = v23 (ix3 (0 : Fin 1) f o) :=
    shapeCast_1ab_ab_apply v23 shapeCasts_S1x1024x256_S1024x256 f o
  exact congrArg₂ (fun a b : EReal => a * b) (congrArg₂ (fun a b : EReal => a * b) e1 e2) e3

theorem trips_eq : k1_t1_loop.trips = 8 := by decide +kernel

/-- Frame `f`'s product, zero past the last frame. -/
def dwTerm (i : grid1.Coords) (x0 : Vec Ideal S1536x8192 .bf16) (x1 : Vec Ideal S3x8192 .f32) (x2 : Vec Ideal S1x8192x256 .fp8e5m2)
    (d : Fin 1536) (o : Fin 256) (f : ℕ) : EReal :=
  if h : f < 8192 then ((x0 (ix2 d (⟨f, h⟩ : Fin 8192)) : EReal) * x1 (ix2 (sigRow (i 0).val) (⟨f, h⟩ : Fin 8192))) * x2 (ix3 (0 : Fin 1) (⟨f, h⟩ : Fin 8192) o)
  else 0

/-- The weight gradient's block of one grid point. -/
def dwAt (i : grid1.Coords) (x0 : Vec Ideal S1536x8192 .bf16) (x1 : Vec Ideal S3x8192 .f32) (x2 : Vec Ideal S1x8192x256 .fp8e5m2)
    (d : Fin 1536) (o : Fin 256) : EReal :=
  ∑ f : Fin 8192, ((x0 (ix2 d f) : EReal) * x1 (ix2 (sigRow (i 0).val) f)) * x2 (ix3 (0 : Fin 1) f o)

section Run
variable (c : Dev nD) (i : grid1.Coords) (arg2 : Memref sig .tc .vmem S1536x8192 .bf16) (harg2 : arg2.IsWhole)
    (arg3 : Memref sig .tc .vmem S3x8192 .f32) (harg3 : arg3.IsWhole) (arg4 : Memref sig .tc .vmem S1x8192x256 .fp8e5m2) (harg4 : arg4.IsWhole)
    (arg5 : Memref sig .tc .vmem S1x1536x256 .f32) (harg5 : arg5.IsWhole)
    (x0 : Vec Ideal S1536x8192 .bf16) (x1 : Vec Ideal S3x8192 .f32) (x2 : Vec Ideal S1x8192x256 .fp8e5m2)

/-- Trip `k` adds its 1024 frames to what the output block holds. -/
theorem tripPay (k : Fin k1_t1_loop.trips) (f5 : BufTy.Contents (Elt Ideal) arg5.view.ty) (u : Fin 1) (d : Fin 1536) (o : Fin 256) :
    (k1_pay2 (View.readAt (Elt Ideal) arg3.view (Rect.unit (s := S3x8192) (k1_off1 i k) S1x1024.size (k1_off1_inb i k)).toLoadRect (harg3.unread x1))
      (View.readAt (Elt Ideal) arg2.view (Rect.unit (s := S1536x8192) (k1_off2 k) S1536x1024.size (k1_off2_inb k)).toLoadRect (harg2.unread x0))
      (View.readAt (Elt Ideal) arg5.view (Rect.unit (s := S1x1536x256) ![0, 0, 0] S1x1536x256.size inb_S1x1536x256_S1x1536x256_0_0_0).toLoadRect f5)
      (View.readAt (Elt Ideal) arg4.view (Rect.unit (s := S1x8192x256) (k1_off3 k) S1x1024x256.size (k1_off3_inb k)).toLoadRect (harg4.unread x2))
      (ix3 u d o) : EReal)
    = arg5.view.read (Elt Ideal) f5 (ix3 (0 : Fin 1) d o) + ∑ f ∈ Finset.range 1024, dwTerm i x0 x1 x2 d o (1024 * k.val + f) := by
  have hk : k.val < 8 := Nat.lt_of_lt_of_eq k.isLt trips_eq
  rw [pay2_apply, Finset.sum_range]
  refine congrArg₂ (fun a b : EReal => a + b) ?_ (Finset.sum_congr rfl fun f _ => ?_)
  · show arg5.view.read (Elt Ideal) f5 _ = _
    congr 1
    funext a
    match a with
    | ⟨0, _⟩ => exact Fin.ext ((Nat.zero_add _).trans (Nat.one_mul _))
    | ⟨1, _⟩ => exact Fin.ext ((Nat.zero_add _).trans (Nat.one_mul _))
    | ⟨2, _⟩ => exact Fin.ext ((Nat.zero_add _).trans (Nat.one_mul _))
  · have hf := f.isLt
    unfold dwTerm
    rw [dif_pos (show 1024 * k.val + f.val < 8192 by omega)]
    have e1 : View.readAt (Elt Ideal) arg2.view (Rect.unit (s := S1536x8192) (k1_off2 k) S1536x1024.size (k1_off2_inb k)).toLoadRect (harg2.unread x0) (ix2 d f)
        = x0 (ix2 d (⟨1024 * k.val + f.val, by omega⟩ : Fin 8192)) := by
      refine (harg2.readAt_unread x0 _ _).trans ?_
      congr 1
      funext a
      have hoff := congrFun (k1_off2_eq k)
      match a with
      | ⟨0, _⟩ => exact Fin.ext (by show k1_off2 k 0 + 1 * d.val = d.val; rw [hoff 0]; show 0 + 1 * d.val = d.val; omega)
      | ⟨1, _⟩ => exact Fin.ext (by show k1_off2 k 1 + 1 * f.val = 1024 * k.val + f.val; rw [hoff 1]; show 1024 * k.val + 1 * f.val = _; omega)
    have e2 : View.readAt (Elt Ideal) arg3.view (Rect.unit (s := S3x8192) (k1_off1 i k) S1x1024.size (k1_off1_inb i k)).toLoadRect (harg3.unread x1) (ix2 (0 : Fin 1) f)
        = x1 (ix2 (sigRow (i 0).val) (⟨1024 * k.val + f.val, by omega⟩ : Fin 8192)) := by
      refine (harg3.readAt_unread x1 _ _).trans ?_
      congr 1
      funext a
      have hoff := congrFun (k1_off1_eq i k)
      match a with
      | ⟨0, _⟩ => exact Fin.ext (by
          show k1_off1 i k 0 + 1 * 0 = (sigRow (i 0).val).val
          rw [hoff 0]
          show (if (i 0).val < 4 then 0 else (if (i 0).val < 12 then 1 else 2)) + 1 * 0 = _
          unfold sigRow
          split
          · rfl
          · split <;> rfl)
      | ⟨1, _⟩ => exact Fin.ext (by show k1_off1 i k 1 + 1 * f.val = 1024 * k.val + f.val; rw [hoff 1]; show 1024 * k.val + 1 * f.val = _; omega)
    have e3 : View.readAt (Elt Ideal) arg4.view (Rect.unit (s := S1x8192x256) (k1_off3 k) S1x1024x256.size (k1_off3_inb k)).toLoadRect (harg4.unread x2) (ix3 (0 : Fin 1) f o)
        = x2 (ix3 (0 : Fin 1) (⟨1024 * k.val + f.val, by omega⟩ : Fin 8192) o) := by
      refine (harg4.readAt_unread x2 _ _).trans ?_
      congr 1
      funext a
      have hoff := congrFun (k1_off3_eq k)
      match a with
      | ⟨0, _⟩ => exact Fin.ext (by show k1_off3 k 0 + 1 * 0 = 0; rw [hoff 0]; rfl)
      | ⟨1, _⟩ => exact Fin.ext (by show k1_off3 k 1 + 1 * f.val = 1024 * k.val + f.val; rw [hoff 1]; show 1024 * k.val + 1 * f.val = _; omega)
      | ⟨2, _⟩ => exact Fin.ext (by show k1_off3 k 2 + 1 * o.val = o.val; rw [hoff 2]; show 0 + 1 * o.val = o.val; omega)
    exact congrArg₂ (fun a b : EReal => a * b) (congrArg₂ (fun a b : EReal => a * b) e1 e2) e3

/-- What a whole-block store leaves is its payload. -/
theorem read_whole_store {sig' : RefSig} {κ : Kind} {m : Space} (v : View sig' κ m S1x1536x256 .f32) (f : v.ty.Contents (Elt Ideal))
    (w : Vec Ideal S1x1536x256 .f32) (L : List (View.Piece (Elt Ideal) S1x1536x256 .f32)) (y : S1x1536x256.Idx) :
    v.read (Elt Ideal) (v.writes (Elt Ideal) f
      (⟨Rect.unit ![0, 0, 0] S1x1536x256.size inb_S1x1536x256_S1x1536x256_0_0_0, w⟩ :: L)) y = w y :=
  View.read_writes_cons_unit_of_mem v f _ w L y y rfl (fun a => by
    match a with
    | ⟨0, _⟩ => exact (Nat.zero_add _).symm
    | ⟨1, _⟩ => exact (Nat.zero_add _).symm
    | ⟨2, _⟩ => exact (Nat.zero_add _).symm)

/-- The pieces of one trip: one store of the whole block. -/
theorem tripL_eq (k : Fin k1_t1_loop.trips) (f5 : BufTy.Contents (Elt Ideal) arg5.view.ty) :
    tripL_k1_t1 (F := Ideal) Variants.none c none i arg2 harg2 arg3 harg3 arg4 harg4 arg5 harg5 (harg2.unread x0) (harg3.unread x1) (harg4.unread x2) k f5
    = [⟨Rect.unit ![0, 0, 0] S1x1536x256.size inb_S1x1536x256_S1x1536x256_0_0_0,
      k1_pay2 (View.readAt (Elt Ideal) arg3.view (Rect.unit (s := S3x8192) (k1_off1 i k) S1x1024.size (k1_off1_inb i k)).toLoadRect (harg3.unread x1))
      (View.readAt (Elt Ideal) arg2.view (Rect.unit (s := S1536x8192) (k1_off2 k) S1536x1024.size (k1_off2_inb k)).toLoadRect (harg2.unread x0))
      (View.readAt (Elt Ideal) arg5.view (Rect.unit (s := S1x1536x256) ![0, 0, 0] S1x1536x256.size inb_S1x1536x256_S1x1536x256_0_0_0).toLoadRect f5)
      (View.readAt (Elt Ideal) arg4.view (Rect.unit (s := S1x8192x256) (k1_off3 k) S1x1024x256.size (k1_off3_inb k)).toLoadRect (harg4.unread x2))⟩] := by
  unfold tripL_k1_t1 trip_k1_t1
  rfl

/-- The store before the loop: zero. -/
abbrev zeroL : List (View.Piece (Elt Ideal) S1x1536x256 .f32) :=
  [⟨Rect.unit ![0, 0, 0] S1x1536x256.size inb_S1x1536x256_S1x1536x256_0_0_0, k1_pay1 (F := Ideal)⟩]

/-- The pieces of the first `n` trips. -/
abbrev pbn (n : ℕ) : List (View.Piece (Elt Ideal) S1x1536x256 .f32) :=
  pb_k1_t1 (F := Ideal) Variants.none c none i arg2 harg2 arg3 harg3 arg4 harg4 arg5 harg5 (harg2.unread x0) (harg3.unread x1)
    (harg4.unread x2) (arg5.view.writes (Elt Ideal) arg5.view.junk zeroL) n

theorem pay1_apply (y : S1x1536x256.Idx) : (k1_pay1 (F := Ideal) y : EReal) = 0 := Ideal.ofBits_zero_f32

/-- After `n` trips any view the pieces are written to holds the sum over the first `1024 n` frames. -/
theorem loop_val (n : ℕ) (hn : n ≤ 8) (u : Fin 1) (d : Fin 1536) (o : Fin 256) :
    ∀ (sig' : RefSig) (κ : Kind) (m : Space) (v : View sig' κ m S1x1536x256 .f32) (g : v.ty.Contents (Elt Ideal)),
    (v.read (Elt Ideal) (v.writes (Elt Ideal) g
      (pbn c i arg2 harg2 arg3 harg3 arg4 harg4 arg5 harg5 x0 x1 x2 n ++ zeroL)) (ix3 u d o) : EReal)
      = ∑ f ∈ Finset.range (1024 * n), dwTerm i x0 x1 x2 d o f := by
  induction n generalizing u with
  | zero =>
    intro sig' κ m v g
    refine (read_whole_store v g (k1_pay1 (F := Ideal)) [] (ix3 u d o)).trans ?_
    rw [pay1_apply]; rfl
  | succ n ih =>
    intro sig' κ m v g
    have hn' : n < k1_t1_loop.trips := by rw [trips_eq]; omega
    have e : pbn c i arg2 harg2 arg3 harg3 arg4 harg4 arg5 harg5 x0 x1 x2 (n + 1)
        = tripL_k1_t1 (F := Ideal) Variants.none c none i arg2 harg2 arg3 harg3 arg4 harg4 arg5 harg5 (harg2.unread x0) (harg3.unread x1) (harg4.unread x2)
          ⟨n, hn'⟩ (arg5.view.writes (Elt Ideal) (arg5.view.writes (Elt Ideal) arg5.view.junk zeroL)
            (pbn c i arg2 harg2 arg3 harg3 arg4 harg4 arg5 harg5 x0 x1 x2 n))
          ++ pbn c i arg2 harg2 arg3 harg3 arg4 harg4 arg5 harg5 x0 x1 x2 n :=
      pb_k1_t1_succ (F := Ideal) Variants.none c none i arg2 harg2 arg3 harg3 arg4 harg4 arg5 harg5 (harg2.unread x0) (harg3.unread x1) (harg4.unread x2) _ ⟨n, hn'⟩
    rw [e, tripL_eq, List.append_assoc]
    refine (read_whole_store v g _ _ (ix3 u d o)).trans ?_
    rw [tripPay, ← View.writes_append, ih (by omega) (0 : Fin 1) _ _ _ arg5.view arg5.view.junk, Nat.mul_succ, Finset.sum_range_add]

/-- The weight gradient's block. -/
theorem outDw_apply (u : Fin 1) (d : Fin 1536) (o : Fin 256) :
    (out1_A_3 c i arg2 harg2 arg3 harg3 arg4 harg4 arg5 harg5 x0 x1 x2 (ix3 u d o) : EReal) = dwAt i x0 x1 x2 d o := by
  have e : (kernelRun1_A c i arg2 harg2 arg3 harg3 arg4 harg4 arg5 harg5 x0 x1 x2).1
      = pbn c i arg2 harg2 arg3 harg3 arg4 harg4 arg5 harg5 x0 x1 x2 k1_t1_loop.trips ++ zeroL := rfl
  unfold out1_A_3
  rw [e, trips_eq, loop_val c i arg2 harg2 arg3 harg3 arg4 harg4 arg5 harg5 x0 x1 x2 8 le_rfl u d o, Finset.sum_range]
  unfold dwAt
  refine Finset.sum_congr rfl fun f _ => ?_
  unfold dwTerm
  rw [dif_pos (show f.val < 8192 from f.isLt)]

end Run

end Cert.KernelIdeal.Val

end
-- ==== Proof.DwArray.lean ====
/-
  The weight gradient the second pallas_call leaves, from the arrays it finds, at the extended reals.
-/
module

public import proofs.«01_k».proof.Proof.DwBlock
public import Idealize.ShloMosaic.Lib.Pipeline.ValueKit
public import Idealize.ShloMosaic.Lib.ValueIdxCoords

@[expose] public section

set_option maxRecDepth 16384

noncomputable section

namespace Cert.KernelIdeal.Val

open Cert.KernelIdeal Cert.KernelIdeal.Gen Cert.Bytes
open Idealize.ShloMosaic hiding ix1 ix2 ix3 ix4
open Idealize.ShloMosaic.TcCoe Idealize.ShloMosaic.Tactic Idealize.ShloMosaic.ValueIdx
open Idealize.SL Idealize.SL.RA Idealize.SL.BI Idealize.SL.Sem
open Idealize.ShloMosaic.Pipeline (Dat)
open scoped BigOperators

/-- The weight gradient's element. -/
def dwG (xt : Vec Ideal S1536x8192 .bf16) (sg : Vec Ideal S3x8192 .f32) (gm : Vec Ideal S16x8192x768 .fp8e5m2) (y : S16x1536x768.Idx) : EReal :=
  ∑ f : Fin 8192, ((xt (ix2 (y 1) f) : EReal) * sg (ix2 (sigRow (y 0).val) f)) * gm (ix3 (y 0) f (y 2))

theorem idx1_0 : ∀ t : Fin cfg1.N, win1_0.index t = ![0, 0] :=
  (by decide +kernel : ∀ t : Fin grid1.N, _)
theorem idx1_1 : ∀ t : Fin cfg1.N, win1_1.index t = ![0, 0] :=
  (by decide +kernel : ∀ t : Fin grid1.N, _)
theorem idx1_2 : ∀ t : Fin cfg1.N, win1_2.index t = ![(grid1.coords t 0).val, 0, (grid1.coords t 1).val] :=
  (by decide +kernel : ∀ t : Fin grid1.N, _)
theorem idx1_3 : ∀ t : Fin cfg1.N, win1_3.index t = ![(grid1.coords t 0).val, 0, (grid1.coords t 1).val] :=
  (by decide +kernel : ∀ t : Fin grid1.N, _)

section Arr
variable (V : (c : Dev nD) → (b : Ref sig .tc) → Buf (Elt Ideal) ((c : Thread nD τ).loc b))

theorem after1_apply (c : Dev nD) (t : Fin cfg1.N) (u : Fin 1) (d : Fin 1536) (o : Fin 256) :
    (outsAt1 V c t (ix3 u d o) : EReal) = dwAt (grid1.coords t) (iblk1 V c 0 t) (iblk1 V c 1 t) (iblk1 V c 2 t) d o := by
  dsimp only [outsAt1]
  exact outDw_apply c (grid1.coords t) (ms1_0 t) (hs1_0 t) (ms1_1 t) (hs1_1 t) (ms1_2 t) (hs1_2 t) (ms1_3 t) (hs1_3 t) (iblk1 V c 0 t) (iblk1 V c 1 t) (iblk1 V c 2 t) u d o

theorem xt_block (c : Dev nD) (t : Fin cfg1.N) (d : Fin 1536) (f : Fin 8192) :
    (iblk1 V c 0 t : Vec Ideal S1536x8192 .bf16) (ix2 d f) = (V c main_v12_2 : Vec Ideal S1536x8192 .bf16) (ix2 d f) := by
  blk_simp [iblk1]
  refine congrArg (V c main_v12_2 : Vec Ideal S1536x8192 .bf16) (funext fun a => ?_)
  match a with
  | ⟨0, _⟩ => exact Fin.ext (by blk_simp [idx1_0])
  | ⟨1, _⟩ => exact Fin.ext (by blk_simp [idx1_0])

theorem sg_block (c : Dev nD) (t : Fin cfg1.N) (j : Fin 3) (f : Fin 8192) :
    (iblk1 V c 1 t : Vec Ideal S3x8192 .f32) (ix2 j f) = (V c main_v9 : Vec Ideal S3x8192 .f32) (ix2 j f) := by
  blk_simp [iblk1]
  refine congrArg (V c main_v9 : Vec Ideal S3x8192 .f32) (funext fun a => ?_)
  match a with
  | ⟨0, _⟩ => exact Fin.ext (by blk_simp [idx1_1])
  | ⟨1, _⟩ => exact Fin.ext (by blk_simp [idx1_1])

theorem gm_block (c : Dev nD) (t : Fin cfg1.N) (u : Fin 1) (f : Fin 8192) (o : Fin 256) (q0 : Fin 16) (q2 : Fin 768)
    (h0 : q0.val = (grid1.coords t 0).val) (h2 : q2.val = (grid1.coords t 1).val * 256 + o.val) :
    (iblk1 V c 2 t : Vec Ideal S1x8192x256 .fp8e5m2) (ix3 u f o) = (V c main_v12_1 : Vec Ideal S16x8192x768 .fp8e5m2) (ix3 q0 f q2) := by
  have hu := u.isLt
  blk_simp [iblk1]
  refine congrArg (V c main_v12_1 : Vec Ideal S16x8192x768 .fp8e5m2) (funext fun a => ?_)
  match a with
  | ⟨0, _⟩ => exact Fin.ext (by blk_simp [idx1_2]; exact h0.symm)
  | ⟨1, _⟩ => exact Fin.ext (by blk_simp [idx1_2])
  | ⟨2, _⟩ => exact Fin.ext (by blk_simp [idx1_2]; exact h2.symm)

/-- The weight gradient after the second pallas_call. -/
theorem arrDw (c : Dev nD) : (dat1 V c).arrAt 3 cfg1.N = dwG (V c main_v12_2) (V c main_v9) (V c main_v12_1) := by
  refine (dat1 V c).arrAt_eq_of_covers 3 _ (by decide +kernel) fun t hf y => ?_
  blk_simp
  rw [after1_3]
  obtain ⟨u, d, o, rfl⟩ : ∃ (u : Fin 1) (d : Fin 1536) (o : Fin 256), y = ix3 u d o := ⟨y 0, y 1, y 2, ValueIdx.eq_ix3 y⟩
  have hu := u.isLt
  refine (after1_apply V c t u d o).trans ?_
  have key : ∀ q : S16x1536x768.Idx, (q 0).val = (grid1.coords t 0).val → q 1 = d → (q 2).val = (grid1.coords t 1).val * 256 + o.val →
      dwAt (grid1.coords t) (iblk1 V c 0 t) (iblk1 V c 1 t) (iblk1 V c 2 t) d o
        = dwG (V c main_v12_2) (V c main_v9) (V c main_v12_1) q := by
    intro q q0 q1 q2
    unfold dwAt dwG
    rw [q1]
    refine Finset.sum_congr rfl fun f _ => ?_
    rw [xt_block, sg_block, gm_block V c t (0 : Fin 1) f o (q 0) (q 2) q0 q2, q0]
  refine key _ ?_ ?_ ?_
  · blk_simp [idx1_3]
  · exact Fin.ext (by blk_simp [idx1_3])
  · blk_simp [idx1_3]

end Arr

end Cert.KernelIdeal.Val

end
-- ==== Proof.KernelRun.lean ====
/-
  What the kernel's run leaves: its two results from the argument arrays, at the extended reals.
-/
module

public import proofs.«01_k».proof.Proof.HostSig
public import proofs.«01_k».proof.Proof.DwArray

@[expose] public section

set_option maxRecDepth 16384

noncomputable section

namespace Cert.KernelIdeal.Val

open Cert.KernelIdeal Cert.KernelIdeal.Gen
open Idealize.ShloMosaic hiding ix1 ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer that outlives @main at the last boundary's contents. -/
theorem run_W3 : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- At the first pallas_call's entry an argument array is as launched. -/
theorem V1_args (c : Dev nD) (a : Ref sig .tc) (ha : a ∈ argRefs) : V1 m ρ c a = m ((c : Thread nD τ).loc a) := W1_args m ρ c a ha

theorem V1_v9 (c : Dev nD) : V1 m ρ c main_v9 = sigHost (m ((c : Thread nD τ).loc main_arg2)) := after_v9 _
theorem V1_v10 (c : Dev nD) : V1 m ρ c main_v10
    = transpose S8192x3 [1, 0] (sigHost (m ((c : Thread nD τ).loc main_arg2) : FVec F S4x2048 .f32)) transposes_S3x8192_S8192x3_1_0 := after_v10 _
theorem V1_v11 (c : Dev nD) : V1 m ρ c main_v11
    = shapeCast S1x768 (m ((c : Thread nD τ).loc main_arg4) : FVec F S768 .f32) shapeCasts_S768_S1x768 := after_v11 _

/-- What the second pallas_call finds. -/
theorem V2_gam (c : Dev nD) : V2 m ρ c main_v12_1 = gamG (m ((c : Thread nD τ).loc main_arg1)) :=
  (W2_arr m ρ c 8).trans ((arr8 (V1 m ρ) c).trans (congrArg gamG (V1_args m ρ c main_arg1 (by decide))))
theorem V2_xt (c : Dev nD) : V2 m ρ c main_v12_2 = xtG (m ((c : Thread nD τ).loc main_arg0)) :=
  (W2_arr m ρ c 9).trans ((arr9 (V1 m ρ) c).trans (congrArg xtG (V1_args m ρ c main_arg0 (by decide))))
theorem V2_v9 (c : Dev nD) : V2 m ρ c main_v9 = sigHost (m ((c : Thread nD τ).loc main_arg2)) :=
  (W2_of m ρ c main_v9 (by decide +kernel)).trans (V1_v9 m ρ c)

end Run

variable (m : (ℓ : Loc nD τ sig) → Buf (Elt Ideal) ℓ) (ρ : Dev nD → PrngReg)

/-- The kernel's dx. -/
def kDx (dy : IVec S4x16384x768 8) (sc : Vec Ideal S4x2048 .f32) (ws : Vec Ideal S768 .f32) (w : Vec Ideal S16x1536x768 .fp8e4m3) : S4x2048x1536.Idx → EReal :=
  dxG dy (transpose S8192x3 [1, 0] (sigHost (F := Ideal) sc) transposes_S3x8192_S8192x3_1_0) (shapeCast S1x768 ws shapeCasts_S768_S1x768) w

/-- The kernel's dw. -/
def kDw (x : Vec Ideal S4x2048x1536 .bf16) (dy : IVec S4x16384x768 8) (sc : Vec Ideal S4x2048 .f32) : S16x1536x768.Idx → EReal :=
  dwG (xtG (F := Ideal) x) (sigHost (F := Ideal) sc) (gamG (F := Ideal) dy)

theorem dxG_congr {dy dy' : IVec S4x16384x768 8} {s s' : Vec Ideal S8192x3 .f32} {ws ws' : Vec Ideal S1x768 .f32} {w w' : Vec Ideal S16x1536x768 .fp8e4m3}
    (h₀ : dy = dy') (h₁ : s = s') (h₂ : ws = ws') (h₃ : w = w') : dxG dy s ws w = dxG dy' s' ws' w' := by subst h₀ h₁ h₂ h₃; rfl

theorem dwG_congr {x x' : Vec Ideal S1536x8192 .bf16} {s s' : Vec Ideal S3x8192 .f32} {g g' : Vec Ideal S16x8192x768 .fp8e5m2}
    (h₀ : x = x') (h₁ : s = s') (h₂ : g = g') : dwG x s g = dwG x' s' g' := by subst h₀ h₁ h₂; rfl

theorem W3_dx (c : Dev nD) : W3 m ρ c (Proc.devRef .tc main_v12_0)
    = kDx (m ((c : Thread nD τ).loc main_arg1)) (m ((c : Thread nD τ).loc main_arg2)) (m ((c : Thread nD τ).loc main_arg4)) (m ((c : Thread nD τ).loc main_arg3)) :=
  (W3_of m ρ c main_v12_0 (by decide +kernel)).trans ((W2_arr m ρ c 7).trans ((arr7 (V1 m ρ) c).trans
    (dxG_congr (V1_args m ρ c main_arg1 (by decide)) (V1_v10 m ρ c) (V1_v11 m ρ c) (V1_args m ρ c main_arg3 (by decide)))))

theorem W3_dw (c : Dev nD) : W3 m ρ c (Proc.devRef .tc main_v13)
    = kDw (m ((c : Thread nD τ).loc main_arg0)) (m ((c : Thread nD τ).loc main_arg1)) (m ((c : Thread nD τ).loc main_arg2)) :=
  (W3_arr m ρ c 3).trans ((arrDw (V2 m ρ) c).trans (dwG_congr (V2_xt m ρ c) (V2_v9 m ρ c) (V2_gam m ρ c)))

/-- Every run of the kernel ends with dx and dw as stated and the arguments unchanged. -/
theorem run : θ_run defs (onTc (τ := τ) (main (F := Ideal))) ⟨m, fun _ => 0, ρ⟩ (fun r => ∀ c : Dev nD,
      r.2.mem ((c.tc : Thread nD τ).loc main_v12_0)
        = kDx (m ((c : Thread nD τ).loc main_arg1)) (m ((c : Thread nD τ).loc main_arg2)) (m ((c : Thread nD τ).loc main_arg4)) (m ((c : Thread nD τ).loc main_arg3))
      ∧ r.2.mem ((c.tc : Thread nD τ).loc main_v13)
        = kDw (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_W3 m ρ)
  exact ⟨(h c _ (mem_uc main_v12_0 (by decide))).trans (W3_dx m ρ c),
    (h c _ (mem_uc main_v13 (by decide))).trans (W3_dw m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩

end Cert.KernelIdeal.Val

end
-- ==== Proof.RefRun.lean ====
/-
  What the reference's run leaves: its two results as the operations of its @main applied to the argument arrays, at any float values.
-/
module

public import proofs.«01_k».proof.Proof.Gen.ReferenceIdeal.Frame
public import Idealize.ShloMosaic.Lib.StableHlo.RunRead
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable {F : FTy → Type} [FloatOps F]

/-- The tap weights times the channel scales. -/
def wReal (w : FVec F S16x1536x768 .bf16) (ws : FVec F S768 .f32) : FVec F S16x1536x768 .bf16 :=
  mulf w (broadcastInDim S16x1536x768 ![0, 1, 2] bcast_S1x1x768_S16x1536x768_0_1_2
    (broadcastInDim S1x1x768 ![2] bcast_S768_S1x1x768_2 (truncf FTy.bf16 ws bitsLt_bf16_f32)))

/-- The codes, frame by frame. -/
def gFrames (g : FVec F S4x16384x768 .bf16) : FVec F S4x2048x8x768 .bf16 := shapeCast S4x2048x8x768 g shapeCasts_S4x16384x768_S4x2048x8x768

/-- The part of dx that a frame's own codes give. -/
def dxCur (g : FVec F S4x16384x768 .bf16) (w : FVec F S16x1536x768 .bf16) (sc : FVec F S4x2048 .f32) (ws : FVec F S768 .f32) : FVec F S4x2048x1536 .f32 :=
  mulf (Host.dotGeneral dot_S4x2048x8x768_S8x1536x768_S4x2048x1536_32_20_01_1_n_n none (gFrames g)
      (extractStridedSlice S8x1536x768 ![4, 0, 0] (wReal w ws) slices_S16x1536x768_S8x1536x768_4_0_0))
    (broadcastInDim S4x2048x1536 ![0, 1, 2] bcast_S4x2048x1_S4x2048x1536_0_1_2 (broadcastInDim S4x2048x1 ![0, 1] bcast_S4x2048_S4x2048x1_0_1 sc))

/-- The part of dx that the frame before gives. -/
def dxPrev (g : FVec F S4x16384x768 .bf16) (w : FVec F S16x1536x768 .bf16) (sc : FVec F S4x2048 .f32) (ws : FVec F S768 .f32) : FVec F S4x2047x1536 .f32 :=
  mulf (Host.dotGeneral dot_S4x2047x4x768_S4x1536x768_S4x2047x1536_32_20_01_1_n_n none
      (extractStridedSlice S4x2047x4x768 ![0, 0, 4, 0] (gFrames g) slices_S4x2048x8x768_S4x2047x4x768_0_0_4_0)
      (extractStridedSlice S4x1536x768 ![0, 0, 0] (wReal w ws) slices_S16x1536x768_S4x1536x768_0_0_0))
    (broadcastInDim S4x2047x1536 ![0, 1, 2] bcast_S4x2047x1_S4x2047x1536_0_1_2
      (broadcastInDim S4x2047x1 ![0, 1] bcast_S4x2047_S4x2047x1_0_1 (extractStridedSlice S4x2047 ![0, 0] sc slices_S4x2048_S4x2047_0_0)))

/-- The part of dx that the frame after gives. -/
def dxNext (g : FVec F S4x16384x768 .bf16) (w : FVec F S16x1536x768 .bf16) (sc : FVec F S4x2048 .f32) (ws : FVec F S768 .f32) : FVec F S4x2047x1536 .f32 :=
  mulf (Host.dotGeneral dot_S4x2047x4x768_S4x1536x768_S4x2047x1536_32_20_01_1_n_n none
      (extractStridedSlice S4x2047x4x768 ![0, 1, 0, 0] (gFrames g) slices_S4x2048x8x768_S4x2047x4x768_0_1_0_0)
      (extractStridedSlice S4x1536x768 ![12, 0, 0] (wReal w ws) slices_S16x1536x768_S4x1536x768_12_0_0))
    (broadcastInDim S4x2047x1536 ![0, 1, 2] bcast_S4x2047x1_S4x2047x1536_0_1_2
      (broadcastInDim S4x2047x1 ![0, 1] bcast_S4x2047_S4x2047x1_0_1 (extractStridedSlice S4x2047 ![0, 1] sc slices_S4x2048_S4x2047_0_1)))

/-- The reference's dx from the decoded operands. -/
def refDx (g : FVec F S4x16384x768 .bf16) (w : FVec F S16x1536x768 .bf16) (sc : FVec F S4x2048 .f32) (ws : FVec F S768 .f32) : FVec F S4x2048x1536 .bf16 :=
  truncf FTy.bf16
    (Host.scatter scatter_S4x2048x1536_S1_S4x2047x1536_012_n_1_0 FloatOps.addf
      (Host.scatter scatter_S4x2048x1536_S1_S4x2047x1536_012_n_1_0 FloatOps.addf (dxCur g w sc ws)
        (broadcastInDim S1 ![] bcast_S_S1 (constantI S_ 32 1#32)) (dxPrev g w sc ws))
      (broadcastInDim S1 ![] bcast_S_S1 (constantI S_ 32 0#32)) (dxNext g w sc ws)) bitsLt_bf16_f32

/-- The codes times the frames' scales. -/
def gReal (g : FVec F S4x16384x768 .bf16) (sc : FVec F S4x2048 .f32) : FVec F S4x2048x8x768 .bf16 :=
  mulf (gFrames g) (broadcastInDim S4x2048x8x768 ![0, 1, 2, 3] bcast_S4x2048x1x1_S4x2048x8x768_0_1_2_3
    (broadcastInDim S4x2048x1x1 ![0, 1] bcast_S4x2048_S4x2048x1x1_0_1 (truncf FTy.bf16 sc bitsLt_bf16_f32)))

/-- dw at the first four taps. -/
def dwPrev (x : FVec F S4x2048x1536 .bf16) (g : FVec F S4x16384x768 .bf16) (sc : FVec F S4x2048 .f32) : FVec F S4x1536x768 .f32 :=
  transpose S4x1536x768 [0, 2, 1] (Host.dotGeneral dot_S4x2047x4x768_S4x2047x1536_S4x768x1536_01_01_23_2_n_n none
    (extractStridedSlice S4x2047x4x768 ![0, 0, 4, 0] (gReal g sc) slices_S4x2048x8x768_S4x2047x4x768_0_0_4_0)
    (extractStridedSlice S4x2047x1536 ![0, 1, 0] x slices_S4x2048x1536_S4x2047x1536_0_1_0)) transposes_S4x768x1536_S4x1536x768_0_2_1

/-- dw at the eight taps of the frame's own codes. -/
def dwCur (x : FVec F S4x2048x1536 .bf16) (g : FVec F S4x16384x768 .bf16) (sc : FVec F S4x2048 .f32) : FVec F S8x1536x768 .f32 :=
  transpose S8x1536x768 [0, 2, 1] (Host.dotGeneral dot_S4x2048x8x768_S4x2048x1536_S8x768x1536_01_01_23_2_n_n none (gReal g sc) x)
    transposes_S8x768x1536_S8x1536x768_0_2_1

/-- dw at the last four taps. -/
def dwNext (x : FVec F S4x2048x1536 .bf16) (g : FVec F S4x16384x768 .bf16) (sc : FVec F S4x2048 .f32) : FVec F S4x1536x768 .f32 :=
  transpose S4x1536x768 [0, 2, 1] (Host.dotGeneral dot_S4x2047x4x768_S4x2047x1536_S4x768x1536_01_01_23_2_n_n none
    (extractStridedSlice S4x2047x4x768 ![0, 1, 0, 0] (gReal g sc) slices_S4x2048x8x768_S4x2047x4x768_0_1_0_0)
    (extractStridedSlice S4x2047x1536 ![0, 0, 0] x slices_S4x2048x1536_S4x2047x1536_0_0_0)) transposes_S4x768x1536_S4x1536x768_0_2_1

/-- The three groups of taps, one after the other. -/
def cat3 (a : FVec F S4x1536x768 .f32) (b : FVec F S8x1536x768 .f32) (c : FVec F S4x1536x768 .f32) : FVec F S16x1536x768 .f32 :=
  concatenate S16x1536x768 0 [⟨S4x1536x768, a⟩, ⟨S8x1536x768, b⟩, ⟨S4x1536x768, c⟩] concatenates_S4x1536x768_S8x1536x768_S4x1536x768_S16x1536x768_d0

/-- The reference's dw from the decoded codes. -/
def refDw (x : FVec F S4x2048x1536 .bf16) (g : FVec F S4x16384x768 .bf16) (sc : FVec F S4x2048 .f32) : FVec F S16x1536x768 .f32 :=
  cat3 (dwPrev x g sc) (dwCur x g sc) (dwNext x g sc)

/-- @main's operations after the decoding leave dx. -/
theorem after_v29 (V : Valuation τ sig (Elt F)) : StableHlo.after hostOps1 V (Proc.devRef .tc main_v29)
    = refDx (V (Proc.devRef .tc main_v0_0)) (V (Proc.devRef .tc main_v0_1)) (V (Proc.devRef .tc main_arg2)) (V (Proc.devRef .tc main_arg4)) := by
  after_reads_simp
  rfl

/-- And dw. -/
theorem after_v44 (V : Valuation τ sig (Elt F)) : StableHlo.after hostOps1 V (Proc.devRef .tc main_v44)
    = refDw (V (Proc.devRef .tc main_arg0)) (V (Proc.devRef .tc main_v0_0)) (V (Proc.devRef .tc main_arg2)) := by
  after_reads_simp
  show cat3 (StableHlo.upto hostOps1 V 45 (Proc.devRef .tc main_v37)) (StableHlo.upto hostOps1 V 45 (Proc.devRef .tc main_v39))
    (StableHlo.upto hostOps1 V 45 (Proc.devRef .tc main_v43)) = _
  after_reads_simp
  rfl

variable (m : (ℓ : Loc nD τ sig) → Buf (Elt F) ℓ) (ρ : Dev nD → PrngReg)

theorem idx_0 : ∀ t : Fin cfg0.N, win0_0.index t = ![0, 0, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![0, 0, 0] := (by decide +kernel : ∀ t : Fin grid0.N, _)

/-- The decoded codes' array after the run. -/
theorem arr_2 (c : Dev nD) : (dats m 0 c).arrAt 2 cfg0.N = k0_pay1 (m ((c : Thread nD τ).loc main_arg1)) := by
  refine (dats m 0 c).arrAt_eq_of_covers 2 _ (by decide +kernel) fun t hf y => ?_
  blk_simp
  rw [after0_2]
  unfold out0_2; frame_out
  have e : ((View.whole main_v0_0).slice (win0_2.rect t)).emb y = y := by
    blk_ext [idx_2]
  rw [e]
  refine congrFun (congrArg k0_pay1 (funext fun z => ?_)) y
  blk_simp [iblk]
  rw [V_main_arg1]
  refine congrArg _ ?_
  blk_ext [idx_0]

/-- The decoded weights' array after the run. -/
theorem arr_3 (c : Dev nD) : (dats m 0 c).arrAt 3 cfg0.N = k0_pay2 (m ((c : Thread nD τ).loc main_arg3)) := by
  refine (dats m 0 c).arrAt_eq_of_covers 3 _ (by decide +kernel) fun t hf y => ?_
  blk_simp
  rw [after0_3]
  unfold out0_3; frame_out
  have e : ((View.whole main_v0_1).slice (win0_3.rect t)).emb y = y := by
    blk_ext [idx_3]
  rw [e]
  refine congrFun (congrArg k0_pay2 (funext fun z => ?_)) y
  blk_simp [iblk]
  rw [V_main_arg3]
  refine congrArg _ ?_
  blk_ext [idx_1]

theorem refDx_congr {g g' : FVec F S4x16384x768 .bf16} {w w' : FVec F S16x1536x768 .bf16} {sc sc' : FVec F S4x2048 .f32} {ws ws' : FVec F S768 .f32}
    (h₀ : g = g') (h₁ : w = w') (h₂ : sc = sc') (h₃ : ws = ws') : refDx g w sc ws = refDx g' w' sc' ws' := by subst h₀ h₁ h₂ h₃; rfl

theorem refDw_congr {x x' : FVec F S4x2048x1536 .bf16} {g g' : FVec F S4x16384x768 .bf16} {sc sc' : FVec F S4x2048 .f32}
    (h₀ : x = x') (h₁ : g = g') (h₂ : sc = sc') : refDw x g sc = refDw x' g' sc' := by subst h₀ h₁ h₂; rfl

theorem arrs_inj : Function.Injective (Pipeline.arrRef spec0) := by decide

/-- The arrays as the decoding leaves them. -/
theorem left_g (c : Dev nD) : Pipeline.withArrays spec0 c (V0 m c) (fun w => (dats m 0 c).arrAt w cfg0.N) (Proc.devRef .tc main_v0_0)
    = k0_pay1 (m ((c : Thread nD τ).loc main_arg1)) := (Pipeline.withArrays_arr spec0 arrs_inj c _ _ 2).trans (arr_2 m c)
theorem left_w (c : Dev nD) : Pipeline.withArrays spec0 c (V0 m c) (fun w => (dats m 0 c).arrAt w cfg0.N) (Proc.devRef .tc main_v0_1)
    = k0_pay2 (m ((c : Thread nD τ).loc main_arg3)) := (Pipeline.withArrays_arr spec0 arrs_inj c _ _ 3).trans (arr_3 m c)
theorem left_x (c : Dev nD) : Pipeline.withArrays spec0 c (V0 m c) (fun w => (dats m 0 c).arrAt w cfg0.N) (Proc.devRef .tc main_arg0)
    = m ((c : Thread nD τ).loc main_arg0) :=
  (Pipeline.withArrays_of_ne spec0 c (V0 m c) _ main_arg0 (by decide)).trans (V_main_arg0 m c)
theorem left_sc (c : Dev nD) : Pipeline.withArrays spec0 c (V0 m c) (fun w => (dats m 0 c).arrAt w cfg0.N) (Proc.devRef .tc main_arg2)
    = m ((c : Thread nD τ).loc main_arg2) :=
  (Pipeline.withArrays_of_ne spec0 c (V0 m c) _ main_arg2 (by decide)).trans (V_main_arg2 m c)
theorem left_ws (c : Dev nD) : Pipeline.withArrays spec0 c (V0 m c) (fun w => (dats m 0 c).arrAt w cfg0.N) (Proc.devRef .tc main_arg4)
    = m ((c : Thread nD τ).loc main_arg4) :=
  (Pipeline.withArrays_of_ne spec0 c (V0 m c) _ main_arg4 (by decide)).trans (V_main_arg4 m c)

/-- Every run ends with dx and dw as @main's operations give them. -/
theorem run : θ_run defs (onTc (τ := τ) (main (F := F))) (s₀ m ρ) (fun r => ∀ c : Dev nD,
      r.2.mem ((c.tc : Thread nD τ).loc main_v29) = refDx (k0_pay1 (m ((c : Thread nD τ).loc main_arg1))) (k0_pay2 (m ((c : Thread nD τ).loc main_arg3)))
          (m ((c : Thread nD τ).loc main_arg2)) (m ((c : Thread nD τ).loc main_arg4))
      ∧ r.2.mem ((c.tc : Thread nD τ).loc main_v44) = refDw (m ((c : Thread nD τ).loc main_arg0)) (k0_pay1 (m ((c : Thread nD τ).loc main_arg1)))
          (m ((c : Thread nD τ).loc main_arg2))) := by
  refine (θ_run defs _ _).mono (fun r h c => ⟨?_, ?_⟩) (run_main m ρ)
  · refine ((h c).2 main_v29 (Pipeline.mem_restRefs_of main_v29 (by decide) (by decide))).trans ?_
    unfold Pipeline.afterTail₀
    exact (after_v29 _).trans (refDx_congr (left_g m c) (left_w m c) (left_sc m c) (left_ws m c))
  · refine ((h c).2 main_v44 (Pipeline.mem_restRefs_of main_v44 (by decide) (by decide))).trans ?_
    unfold Pipeline.afterTail₀
    exact (after_v44 _).trans (refDw_congr (left_x m c) (left_g m c) (left_sc m c))

end Cert.ReferenceIdeal.Val

end
-- ==== Proof.RefDots.lean ====
/-
  The two shapes of product the reference takes, read at an index at the extended reals: each contracts two axes,
  so its entry is a double sum.
-/
module

public import Idealize.ShloMosaic.Lib.TwoAxisContraction
public import Idealize.ShloMosaic.Lib.ValueIdxCoords
public import Idealize.ShloMosaic.PureOps.Ideal.Laws

@[expose] public section

set_option maxRecDepth 16384

noncomputable section

namespace Cert.RefDots

open Idealize.ShloMosaic Idealize.ShloMosaic.ValueIdx
open scoped BigOperators

variable {B T P O D : Nat}

/-- [B, T, P, O] by [P, D, O] over taps and channels. -/
theorem dot_taps {φ₁ φ₂ : FTy} (w : DotDims.WF ⟨4, ![B, T, P, O]⟩ ⟨3, ![P, D, O]⟩ ⟨3, ![B, T, D]⟩ [3, 2] [2, 0] [0, 1] [1] [] [])
    (prec : Option ContractPrecision) (L : FVec Ideal ⟨4, ![B, T, P, O]⟩ φ₁) (R : FVec Ideal ⟨3, ![P, D, O]⟩ φ₂) (b : Fin B) (t : Fin T) (d : Fin D) :
    Host.dotGeneral (⟨[3, 2], [2, 0], [0, 1], [1], [], [], w⟩ : DotDims _ _ _) prec L R (ix3 b t d)
      = ∑ o : Fin O, ∑ p : Fin P, L (ix4 b t p o) * R (ix3 p d o) := by
  show FloatOps.dotGeneral _ prec _ L R (ix3 b t d) = _
  rw [Ideal.dotGeneral_apply, sum_contr2 _ O P rfl rfl rfl]
  refine Finset.sum_congr rfl fun o _ => Finset.sum_congr rfl fun p _ => ?_
  let Dm : DotDims ⟨4, ![B, T, P, O]⟩ ⟨3, ![P, D, O]⟩ ⟨3, ![B, T, D]⟩ := ⟨[3, 2], [2, 0], [0, 1], [1], [], [], w⟩
  have h0 := contrEquiv2_symm_val0 Dm O P rfl rfl rfl (o, p)
  have h1 := contrEquiv2_symm_val1 Dm O P rfl rfl rfl (o, p)
  have el : Dm.lhsIdx (ix3 b t d) ((contrEquiv2 Dm O P rfl rfl rfl).symm (o, p)) = ix4 b t p o := by
    funext a; apply Fin.ext
    match a with
    | ⟨0, _⟩ => rfl
    | ⟨1, _⟩ => rfl
    | ⟨2, _⟩ => exact h1
    | ⟨3, _⟩ => exact h0
  have er : Dm.rhsIdx (ix3 b t d) ((contrEquiv2 Dm O P rfl rfl rfl).symm (o, p)) = ix3 p d o := by
    funext a; apply Fin.ext
    match a with
    | ⟨0, _⟩ => exact h1
    | ⟨1, _⟩ => rfl
    | ⟨2, _⟩ => exact h0
  exact congrArg₂ (fun u v : EReal => u * v) (congrArg L el) (congrArg R er)

/-- [B, T, P, O] by [B, T, D] over sequences and frames. -/
theorem dot_frames {φ₁ φ₂ : FTy} (w : DotDims.WF ⟨4, ![B, T, P, O]⟩ ⟨3, ![B, T, D]⟩ ⟨3, ![P, O, D]⟩ [0, 1] [0, 1] [2, 3] [2] [] [])
    (prec : Option ContractPrecision) (L : FVec Ideal ⟨4, ![B, T, P, O]⟩ φ₁) (R : FVec Ideal ⟨3, ![B, T, D]⟩ φ₂) (p : Fin P) (o : Fin O) (d : Fin D) :
    Host.dotGeneral (⟨[0, 1], [0, 1], [2, 3], [2], [], [], w⟩ : DotDims _ _ _) prec L R (ix3 p o d)
      = ∑ b : Fin B, ∑ t : Fin T, L (ix4 b t p o) * R (ix3 b t d) := by
  show FloatOps.dotGeneral _ prec _ L R (ix3 p o d) = _
  rw [Ideal.dotGeneral_apply, sum_contr2 _ B T rfl rfl rfl]
  refine Finset.sum_congr rfl fun b _ => Finset.sum_congr rfl fun t _ => ?_
  let Dm : DotDims ⟨4, ![B, T, P, O]⟩ ⟨3, ![B, T, D]⟩ ⟨3, ![P, O, D]⟩ := ⟨[0, 1], [0, 1], [2, 3], [2], [], [], w⟩
  have h0 := contrEquiv2_symm_val0 Dm B T rfl rfl rfl (b, t)
  have h1 := contrEquiv2_symm_val1 Dm B T rfl rfl rfl (b, t)
  have el : Dm.lhsIdx (ix3 p o d) ((contrEquiv2 Dm B T rfl rfl rfl).symm (b, t)) = ix4 b t p o := by
    funext a; apply Fin.ext
    match a with
    | ⟨0, _⟩ => exact h0
    | ⟨1, _⟩ => exact h1
    | ⟨2, _⟩ => rfl
    | ⟨3, _⟩ => rfl
  have er : Dm.rhsIdx (ix3 p o d) ((contrEquiv2 Dm B T rfl rfl rfl).symm (b, t)) = ix3 b t d := by
    funext a; apply Fin.ext
    match a with
    | ⟨0, _⟩ => exact h0
    | ⟨1, _⟩ => exact h1
    | ⟨2, _⟩ => rfl
  exact congrArg₂ (fun u v : EReal => u * v) (congrArg L el) (congrArg R er)

end Cert.RefDots

end
-- ==== Proof.RowAdd.lean ====
/-
  jax's `x.at[:, k : k + 2047].add(u)` at one literal start `k`, read at an entry: the rows from `k` on get the update's, the others stay.
-/
module

public import Idealize.ShloMosaic.Lib.Routing.OpsOrder

@[expose] public section

namespace Cert.RowAdd

open Idealize.ShloMosaic Idealize.ShloMosaic.ValueIdx Idealize.ShloMosaic.Routing

/-- A fold that acts only at the members satisfying `p`, of which the list without repetition has at most the one `n₀`. -/
theorem foldl_one {α ι : Type} (L : List ι) (hL : L.Nodup) (p : ι → Prop) [DecidablePred p] (f : α → ι → α) (a : α) (n₀ : ι) (h₀ : n₀ ∈ L)
    (hp₀ : p n₀) (hp : ∀ n ∈ L, p n → n = n₀) : L.foldl (fun a n => if p n then f a n else a) a = f a n₀ := by
  induction L generalizing a with
  | nil => exact absurd h₀ List.not_mem_nil
  | cons n L ih =>
    rw [List.foldl_cons]
    have hnd := List.nodup_cons.1 hL
    by_cases e : p n
    · rw [if_pos e]
      obtain rfl := hp n List.mem_cons_self e
      have : ∀ (L' : List ι), (∀ k ∈ L', ¬ p k) → ∀ b : α, L'.foldl (fun a n => if p n then f a n else a) b = b := by
        intro L' h
        induction L' with
        | nil => exact fun _ => rfl
        | cons k L' ih' =>
          intro b
          rw [List.foldl_cons, if_neg (h k List.mem_cons_self)]
          exact ih' (fun k' hk' => h k' (List.mem_cons_of_mem _ hk')) b
      exact this L (fun k hk hpk => hnd.1 (by rw [← hp k (List.mem_cons_of_mem _ hk) hpk]; exact hk)) _
    · rw [if_neg e]
      refine ih hnd.2 a ?_ fun k hk => hp k (List.mem_cons_of_mem _ hk)
      rcases List.mem_cons.1 h₀ with h | h
      · exact absurd (h ▸ hp₀) e
      · exact h

/-- A fold that acts at no member of the list. -/
theorem foldl_none {α ι : Type} (L : List ι) (p : ι → Prop) [DecidablePred p] (f : α → ι → α) (a : α) (hp : ∀ n ∈ L, ¬ p n) :
    L.foldl (fun a n => if p n then f a n else a) a = a := by
  induction L generalizing a with
  | nil => rfl
  | cons n L ih =>
    rw [List.foldl_cons, if_neg (hp n List.mem_cons_self)]
    exact ih a fun k hk => hp k (List.mem_cons_of_mem _ hk)

/-- A scatter at an element on which exactly one update lands. -/
theorem scatter_one {α : Type} {s si u : Shape} {w : Nat} (d : ScatterDims s si u) (f : α → α → α) (x : s.Idx → α) (idx : IVec si w) (upd : u.Idx → α)
    (i : s.Idx) (j : u.Idx) (hj : ∀ j', d.resultIdx? j' idx = some i ↔ j' = j) : Host.scatter d f x idx upd i = f (x i) (upd j) := by
  rw [← scatterIn_finRange, scatterIn_at]
  rw [foldl_one (List.finRange u.numel) (List.nodup_finRange _) (fun n => d.resultIdx? (u.rowMajor.symm n) idx = some i)
    (fun a n => f a (upd (u.rowMajor.symm n))) (x i) (u.rowMajor j) (List.mem_finRange _) ((hj _).2 (by simp))
    (fun n _ hn => by rw [← (hj _).1 hn]; simp)]
  simp

/-- A scatter at an element on which no update lands. -/
theorem scatter_none {α : Type} {s si u : Shape} {w : Nat} (d : ScatterDims s si u) (f : α → α → α) (x : s.Idx → α) (idx : IVec si w) (upd : u.Idx → α)
    (i : s.Idx) (hj : ∀ j', d.resultIdx? j' idx ≠ some i) : Host.scatter d f x idx upd i = x i := by
  rw [← scatterIn_finRange, scatterIn_at]
  exact foldl_none (List.finRange u.numel) (fun n => d.resultIdx? (u.rowMajor.symm n) idx = some i) (fun a n => f a (upd (u.rowMajor.symm n))) (x i) fun n _ => hj _

/-- Where an update of a scatter of rows at one start word lands: its row moved by the start. -/
theorem lands {A N M E w : Nat} (d : ScatterDims (⟨3, ![A, N, E]⟩ : Shape) (⟨1, ![1]⟩ : Shape) (⟨3, ![A, M, E]⟩ : Shape)) (hu : d.updateWindowDims = [0, 1, 2]) (hiw : d.insertedWindowDims = [])
    (hsd : d.scatterDimsToOperandDims = [1]) (idx : IVec (⟨1, ![1]⟩ : Shape) w) (k : Nat) (hidx : ∀ i, (idx i).toInt = (k : Int))
    (j : (⟨3, ![A, M, E]⟩ : Shape).Idx) (i : (⟨3, ![A, N, E]⟩ : Shape).Idx) :
    d.resultIdx? j idx = some i ↔ (j 0).val = (i 0).val ∧ k + (j 1).val = (i 1).val ∧ (j 2).val = (i 2).val := by
  have hm : (1 : Fin 3) ∈ d.scatterDimsToOperandDims := by rw [hsd]; exact List.mem_singleton.2 rfl
  have hkept : ∀ a : Fin 3, a ∉ d.insertedWindowDims := by rw [hiw]; intro a; exact List.not_mem_nil
  have hs0 : d.start j idx 0 = 0 := by
    unfold ScatterDims.start
    rw [dif_neg fun h => by rw [hsd] at h; exact absurd (List.mem_singleton.1 h) (by decide : (0 : Fin 3) ≠ 1)]
  have hs2 : d.start j idx 2 = 0 := by
    unfold ScatterDims.start
    rw [dif_neg fun h => by rw [hsd] at h; exact absurd (List.mem_singleton.1 h) (by decide : (2 : Fin 3) ≠ 1)]
  have hs1 : d.start j idx 1 = (k : Int) := by
    unfold ScatterDims.start
    rw [dif_pos hm, hidx]
  have hw : ∀ a : Fin 3, d.window j a = (j a).val := by
    obtain ⟨uw, iw, sd, iv, wf⟩ := d
    dsimp only at hu hiw hsd
    subst hu hiw hsd
    intro a
    fin_cases a <;> rfl
  rw [resultIdx?_eq_some]
  constructor
  · intro h
    have h0 := h 0; have h1 := h 1; have h2 := h 2
    rw [hs0, hw] at h0; rw [hs1, hw] at h1; rw [hs2, hw] at h2
    omega
  · rintro ⟨h0, h1, h2⟩ a
    match a with
    | ⟨0, _⟩ => show d.start j idx 0 + (d.window j 0 : Int) = ((i 0).val : Int); rw [hs0, hw]; omega
    | ⟨1, _⟩ => show d.start j idx 1 + (d.window j 1 : Int) = ((i 1).val : Int); rw [hs1, hw]; omega
    | ⟨2, _⟩ => show d.start j idx 2 + (d.window j 2 : Int) = ((i 2).val : Int); rw [hs2, hw]; omega

/-- Rows `k`, …, `k + M − 1` of the operand get the update's rows by the body, the others stay. -/
theorem scatter_rows {α : Type} {A N M E w : Nat} (d : ScatterDims (⟨3, ![A, N, E]⟩ : Shape) (⟨1, ![1]⟩ : Shape) (⟨3, ![A, M, E]⟩ : Shape)) (hu : d.updateWindowDims = [0, 1, 2]) (hiw : d.insertedWindowDims = [])
    (hsd : d.scatterDimsToOperandDims = [1]) (f : α → α → α) (x : (⟨3, ![A, N, E]⟩ : Shape).Idx → α) (idx : IVec (⟨1, ![1]⟩ : Shape) w) (upd : (⟨3, ![A, M, E]⟩ : Shape).Idx → α)
    (k : Nat) (hidx : ∀ i, (idx i).toInt = (k : Int)) (a : Fin A) (n : Fin N) (e : Fin E) :
    Host.scatter d f x idx upd (ix3 a n e) = if h : k ≤ n.val ∧ n.val - k < M then f (x (ix3 a n e)) (upd (ix3 a ⟨n.val - k, h.2⟩ e)) else x (ix3 a n e) := by
  split
  · next h =>
    refine scatter_one d f x idx upd _ _ fun j => ?_
    rw [lands d hu hiw hsd idx k hidx]
    constructor
    · rintro ⟨h0, h1, h2⟩
      rw [ValueIdx.eq_ix3 j]
      have e0 : j 0 = a := Fin.ext h0
      have e1 : j 1 = (⟨n.val - k, h.2⟩ : Fin M) := Fin.ext (by show (j 1).val = n.val - k; change k + (j 1).val = n.val at h1; omega)
      have e2 : j 2 = e := Fin.ext h2
      rw [e0, e1, e2]
      rfl
    · rintro rfl
      refine ⟨rfl, ?_, rfl⟩
      show k + (n.val - k) = n.val
      omega
  · next h =>
    refine scatter_none d f x idx upd _ fun j hj => h ?_
    have := (lands d hu hiw hsd idx k hidx j _).1 hj
    have h1 : k + (j 1).val = n.val := this.2.1
    have h2 : (j 1).val < M := (j 1).isLt
    omega

end Cert.RowAdd

end
-- ==== Proof.RefValue.lean ====
/-
  The reference's operations read at an index, at the extended reals: every part of dx and of dw is a sum over codes,
  weights and scales.
-/
module

public import proofs.«01_k».proof.Proof.RefRun
public import proofs.«01_k».proof.Proof.RefDots
public import proofs.«01_k».proof.Proof.RowAdd
public import Idealize.ShloMosaic.Lib.ValueIdxCoords
public import Idealize.ShloMosaic.Lib.ValueLayout

@[expose] public section

set_option maxRecDepth 16384

noncomputable section

namespace Cert.ReferenceIdeal.Val

open Cert.ReferenceIdeal Cert.ReferenceIdeal.Gen
open Idealize.ShloMosaic
open Idealize.ShloMosaic.TcCoe Idealize.ShloMosaic.Tactic Idealize.ShloMosaic.ValueIdx
open scoped BigOperators

section Layout
variable {F : FTy → Type} [FloatOps F]

theorem gFrames_apply (g : FVec F S4x16384x768 .bf16) (b : Fin 4) (t : Fin 2048) (p : Fin 8) (o : Fin 768) :
    gFrames g (ix4 b t p o) = g (ix3 b (⟨8 * t.val + p.val, by omega⟩ : Fin 16384) o) := by
  unfold gFrames
  refine shapeCast_apply _ _ _ _ ?_
  rw [Shape.rowMajor_val_three, Shape.rowMajor_val_four]
  show (b.val * 16384 + (8 * t.val + p.val)) * 768 + o.val = ((b.val * 2048 + t.val) * 8 + p.val) * 768 + o.val
  omega

/-- The codes of the four last positions of all frames but the last. -/
theorem lo_slice {φ : FTy} (x : FVec F S4x2048x8x768 φ) (b : Fin 4) (u : Fin 2047) (p : Fin 4) (o : Fin 768) :
    extractStridedSlice S4x2047x4x768 ![0, 0, 4, 0] x slices_S4x2048x8x768_S4x2047x4x768_0_0_4_0 (ix4 b u p o)
      = x (ix4 b (⟨u.val, by omega⟩ : Fin 2048) (⟨4 + p.val, by omega⟩ : Fin 8) o) :=
  extractStridedSlice_apply _ x _ _ _ fun a => by
    match a with
    | ⟨0, _⟩ => exact (Nat.zero_add _).symm
    | ⟨1, _⟩ => exact (Nat.zero_add _).symm
    | ⟨2, _⟩ => rfl
    | ⟨3, _⟩ => exact (Nat.zero_add _).symm

/-- The codes of the four first positions of all frames but the first. -/
theorem hi_slice {φ : FTy} (x : FVec F S4x2048x8x768 φ) (b : Fin 4) (u : Fin 2047) (p : Fin 4) (o : Fin 768) :
    extractStridedSlice S4x2047x4x768 ![0, 1, 0, 0] x slices_S4x2048x8x768_S4x2047x4x768_0_1_0_0 (ix4 b u p o)
      = x (ix4 b (⟨u.val + 1, by omega⟩ : Fin 2048) (⟨p.val, by omega⟩ : Fin 8) o) :=
  extractStridedSlice_apply _ x _ _ _ fun a => by
    match a with
    | ⟨0, _⟩ => exact (Nat.zero_add _).symm
    | ⟨1, _⟩ => exact Nat.add_comm _ _
    | ⟨2, _⟩ => exact (Nat.zero_add _).symm
    | ⟨3, _⟩ => exact (Nat.zero_add _).symm

theorem w_prev (x : FVec F S16x1536x768 .bf16) (p : Fin 4) (d : Fin 1536) (o : Fin 768) :
    extractStridedSlice S4x1536x768 ![0, 0, 0] x slices_S16x1536x768_S4x1536x768_0_0_0 (ix3 p d o) = x (ix3 (⟨p.val, by omega⟩ : Fin 16) d o) :=
  extractStridedSlice_apply _ x _ _ _ fun a => by
    match a with
    | ⟨0, _⟩ => exact (Nat.zero_add _).symm
    | ⟨1, _⟩ => exact (Nat.zero_add _).symm
    | ⟨2, _⟩ => exact (Nat.zero_add _).symm

theorem w_cur (x : FVec F S16x1536x768 .bf16) (p : Fin 8) (d : Fin 1536) (o : Fin 768) :
    extractStridedSlice S8x1536x768 ![4, 0, 0] x slices_S16x1536x768_S8x1536x768_4_0_0 (ix3 p d o) = x (ix3 (⟨4 + p.val, by omega⟩ : Fin 16) d o) :=
  extractStridedSlice_apply _ x _ _ _ fun a => by
    match a with
    | ⟨0, _⟩ => rfl
    | ⟨1, _⟩ => exact (Nat.zero_add _).symm
    | ⟨2, _⟩ => exact (Nat.zero_add _).symm

theorem w_next (x : FVec F S16x1536x768 .bf16) (p : Fin 4) (d : Fin 1536) (o : Fin 768) :
    extractStridedSlice S4x1536x768 ![12, 0, 0] x slices_S16x1536x768_S4x1536x768_12_0_0 (ix3 p d o) = x (ix3 (⟨12 + p.val, by omega⟩ : Fin 16) d o) :=
  extractStridedSlice_apply _ x _ _ _ fun a => by
    match a with
    | ⟨0, _⟩ => rfl
    | ⟨1, _⟩ => exact (Nat.zero_add _).symm
    | ⟨2, _⟩ => exact (Nat.zero_add _).symm

/-- A scale per frame, laid over dx. -/
theorem sc_dx (sc : FVec F S4x2048 .f32) (b : Fin 4) (t : Fin 2048) (d : Fin 1536) :
    (broadcastInDim S4x2048x1536 ![0, 1, 2] bcast_S4x2048x1_S4x2048x1536_0_1_2 (broadcastInDim S4x2048x1 ![0, 1] bcast_S4x2048_S4x2048x1_0_1 sc)
      : FVec F S4x2048x1536 .f32) (ix3 b t d) = sc (ix2 b t) := by
  refine (broadcastInDim_apply _ _ _ _ (ix3 b t (0 : Fin 1)) fun a => ?_).trans (broadcastInDim_apply _ _ sc _ (ix2 b t) fun a => ?_)
  · match a with
    | ⟨0, _⟩ => rfl
    | ⟨1, _⟩ => rfl
    | ⟨2, _⟩ => rfl
  · match a with
    | ⟨0, _⟩ => rfl
    | ⟨1, _⟩ => rfl

/-- The same over all frames but one. -/
theorem sc_dx' (sc : FVec F S4x2047 .f32) (b : Fin 4) (t : Fin 2047) (d : Fin 1536) :
    (broadcastInDim S4x2047x1536 ![0, 1, 2] bcast_S4x2047x1_S4x2047x1536_0_1_2 (broadcastInDim S4x2047x1 ![0, 1] bcast_S4x2047_S4x2047x1_0_1 sc)
      : FVec F S4x2047x1536 .f32) (ix3 b t d) = sc (ix2 b t) := by
  refine (broadcastInDim_apply _ _ _ _ (ix3 b t (0 : Fin 1)) fun a => ?_).trans (broadcastInDim_apply _ _ sc _ (ix2 b t) fun a => ?_)
  · match a with
    | ⟨0, _⟩ => rfl
    | ⟨1, _⟩ => rfl
    | ⟨2, _⟩ => rfl
  · match a with
    | ⟨0, _⟩ => rfl
    | ⟨1, _⟩ => rfl

theorem sc_first (sc : FVec F S4x2048 .f32) (b : Fin 4) (u : Fin 2047) :
    extractStridedSlice S4x2047 ![0, 0] sc slices_S4x2048_S4x2047_0_0 (ix2 b u) = sc (ix2 b (⟨u.val, by omega⟩ : Fin 2048)) :=
  extractStridedSlice_apply _ sc _ _ _ fun a => by
    match a with
    | ⟨0, _⟩ => exact (Nat.zero_add _).symm
    | ⟨1, _⟩ => exact (Nat.zero_add _).symm

theorem sc_last (sc : FVec F S4x2048 .f32) (b : Fin 4) (u : Fin 2047) :
    extractStridedSlice S4x2047 ![0, 1] sc slices_S4x2048_S4x2047_0_1 (ix2 b u) = sc (ix2 b (⟨u.val + 1, by omega⟩ : Fin 2048)) :=
  extractStridedSlice_apply _ sc _ _ _ fun a => by
    match a with
    | ⟨0, _⟩ => exact (Nat.zero_add _).symm
    | ⟨1, _⟩ => exact Nat.add_comm _ _

/-- A scale per frame, laid over the codes. -/
theorem sc_g {φ : FTy} (sc : FVec F S4x2048 φ) (b : Fin 4) (t : Fin 2048) (p : Fin 8) (o : Fin 768) :
    (broadcastInDim S4x2048x8x768 ![0, 1, 2, 3] bcast_S4x2048x1x1_S4x2048x8x768_0_1_2_3 (broadcastInDim S4x2048x1x1 ![0, 1] bcast_S4x2048_S4x2048x1x1_0_1 sc)
      : FVec F S4x2048x8x768 φ) (ix4 b t p o) = sc (ix2 b t) := by
  refine (broadcastInDim_apply _ _ _ _ (ix4 b t (0 : Fin 1) (0 : Fin 1)) fun a => ?_).trans (broadcastInDim_apply _ _ sc _ (ix2 b t) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- A scale per channel, laid over the weights. -/
theorem ws_w {φ : FTy} (ws : FVec F S768 φ) (k : Fin 16) (d : Fin 1536) (o : Fin 768) :
    (broadcastInDim S16x1536x768 ![0, 1, 2] bcast_S1x1x768_S16x1536x768_0_1_2 (broadcastInDim S1x1x768 ![2] bcast_S768_S1x1x768_2 ws)
      : FVec F S16x1536x768 φ) (ix3 k d o) = ws (ix1 o) := by
  refine (broadcastInDim_apply _ _ _ _ (ix3 (0 : Fin 1) (0 : Fin 1) o) fun a => ?_).trans (broadcastInDim_apply _ _ ws _ (ix1 o) fun a => ?_)
  · match a with
    | ⟨0, _⟩ => rfl
    | ⟨1, _⟩ => rfl
    | ⟨2, _⟩ => rfl
  · match a with
    | ⟨0, _⟩ => rfl

theorem x_first (x : FVec F S4x2048x1536 .bf16) (b : Fin 4) (u : Fin 2047) (d : Fin 1536) :
    extractStridedSlice S4x2047x1536 ![0, 0, 0] x slices_S4x2048x1536_S4x2047x1536_0_0_0 (ix3 b u d) = x (ix3 b (⟨u.val, by omega⟩ : Fin 2048) d) :=
  extractStridedSlice_apply _ x _ _ _ fun a => by
    match a with
    | ⟨0, _⟩ => exact (Nat.zero_add _).symm
    | ⟨1, _⟩ => exact (Nat.zero_add _).symm
    | ⟨2, _⟩ => exact (Nat.zero_add _).symm

theorem x_last (x : FVec F S4x2048x1536 .bf16) (b : Fin 4) (u : Fin 2047) (d : Fin 1536) :
    extractStridedSlice S4x2047x1536 ![0, 1, 0] x slices_S4x2048x1536_S4x2047x1536_0_1_0 (ix3 b u d) = x (ix3 b (⟨u.val + 1, by omega⟩ : Fin 2048) d) :=
  extractStridedSlice_apply _ x _ _ _ fun a => by
    match a with
    | ⟨0, _⟩ => exact (Nat.zero_add _).symm
    | ⟨1, _⟩ => exact Nat.add_comm _ _
    | ⟨2, _⟩ => exact (Nat.zero_add _).symm

/-- Tap `k` of dw is one of the three groups' taps. -/
theorem cat3_prev (a : FVec F S4x1536x768 .f32) (b : FVec F S8x1536x768 .f32) (c : FVec F S4x1536x768 .f32) (k : Fin 16) (p : Fin 4) (h : k.val = p.val)
    (d : Fin 1536) (o : Fin 768) : cat3 a b c (ix3 k d o) = a (ix3 p d o) := by
  unfold cat3
  refine concatenate_apply_piece (t := S16x1536x768) 0 _ _ _ 0 (by simp) S4x1536x768 a rfl rfl 0 rfl (ix3 p d o) (fun e he => ?_) ?_
  · match e with
    | ⟨0, _⟩ => exact absurd rfl he
    | ⟨1, _⟩ => rfl
    | ⟨2, _⟩ => rfl
  · show 0 + p.val = k.val
    omega

theorem cat3_cur (a : FVec F S4x1536x768 .f32) (b : FVec F S8x1536x768 .f32) (c : FVec F S4x1536x768 .f32) (k : Fin 16) (p : Fin 8) (h : k.val = 4 + p.val)
    (d : Fin 1536) (o : Fin 768) : cat3 a b c (ix3 k d o) = b (ix3 p d o) := by
  unfold cat3
  refine concatenate_apply_piece (t := S16x1536x768) 0 _ _ _ 1 (by simp) S8x1536x768 b rfl rfl 4 rfl (ix3 p d o) (fun e he => ?_) h.symm
  match e with
  | ⟨0, _⟩ => exact absurd rfl he
  | ⟨1, _⟩ => rfl
  | ⟨2, _⟩ => rfl

theorem cat3_next (a : FVec F S4x1536x768 .f32) (b : FVec F S8x1536x768 .f32) (c : FVec F S4x1536x768 .f32) (k : Fin 16) (p : Fin 4) (h : k.val = 12 + p.val)
    (d : Fin 1536) (o : Fin 768) : cat3 a b c (ix3 k d o) = c (ix3 p d o) := by
  unfold cat3
  refine concatenate_apply_piece (t := S16x1536x768) 0 _ _ _ 2 (by simp) S4x1536x768 c rfl rfl 12 rfl (ix3 p d o) (fun e he => ?_) h.symm
  match e with
  | ⟨0, _⟩ => exact absurd rfl he
  | ⟨1, _⟩ => rfl
  | ⟨2, _⟩ => rfl

end Layout

variable (x : FVec Ideal S4x2048x1536 .bf16) (g : FVec Ideal S4x16384x768 .bf16) (w : FVec Ideal S16x1536x768 .bf16) (sc : FVec Ideal S4x2048 .f32) (ws : FVec Ideal S768 .f32)

/-- A scaled weight. -/
theorem wReal_apply (k : Fin 16) (d : Fin 1536) (o : Fin 768) : (wReal w ws (ix3 k d o) : EReal) = w (ix3 k d o) * ws (ix1 o) :=
  congrArg (fun u : EReal => (w (ix3 k d o) : EReal) * u) (ws_w (F := Ideal) (truncf FTy.bf16 ws bitsLt_bf16_f32) k d o)

/-- A scaled code. -/
theorem gReal_apply (b : Fin 4) (t : Fin 2048) (p : Fin 8) (o : Fin 768) :
    (gReal g sc (ix4 b t p o) : EReal) = g (ix3 b (⟨8 * t.val + p.val, by omega⟩ : Fin 16384) o) * sc (ix2 b t) :=
  congrArg₂ (fun u v : EReal => u * v) (gFrames_apply g b t p o) (sc_g (F := Ideal) (truncf FTy.bf16 sc bitsLt_bf16_f32) b t p o)

theorem dxCur_apply (b : Fin 4) (t : Fin 2048) (d : Fin 1536) : (dxCur g w sc ws (ix3 b t d) : EReal)
    = (∑ o : Fin 768, ∑ p : Fin 8, (g (ix3 b (⟨8 * t.val + p.val, by omega⟩ : Fin 16384) o) : EReal) * (w (ix3 (⟨4 + p.val, by omega⟩ : Fin 16) d o) * ws (ix1 o))) * sc (ix2 b t) := by
  refine congrArg₂ (fun u v : EReal => u * v) ((RefDots.dot_taps (φ₁ := .bf16) (φ₂ := .bf16) dot_S4x2048x8x768_S8x1536x768_S4x2048x1536_32_20_01_1_n_n.wf none _ _ b t d).trans ?_) (sc_dx sc b t d)
  refine Finset.sum_congr rfl fun o _ => Finset.sum_congr rfl fun p _ => ?_
  exact congrArg₂ (fun u v : EReal => u * v) (gFrames_apply g b t p o) ((w_cur (wReal w ws) p d o).trans (wReal_apply w ws _ d o))

theorem dxPrev_apply (b : Fin 4) (t : Fin 2047) (d : Fin 1536) : (dxPrev g w sc ws (ix3 b t d) : EReal)
    = (∑ o : Fin 768, ∑ p : Fin 4, (g (ix3 b (⟨8 * t.val + (4 + p.val), by omega⟩ : Fin 16384) o) : EReal) * (w (ix3 (⟨p.val, by omega⟩ : Fin 16) d o) * ws (ix1 o)))
      * sc (ix2 b (⟨t.val, by omega⟩ : Fin 2048)) := by
  refine congrArg₂ (fun u v : EReal => u * v) ((RefDots.dot_taps (φ₁ := .bf16) (φ₂ := .bf16) dot_S4x2047x4x768_S4x1536x768_S4x2047x1536_32_20_01_1_n_n.wf none _ _ b t d).trans ?_)
    ((sc_dx' _ b t d).trans (sc_first sc b t))
  refine Finset.sum_congr rfl fun o _ => Finset.sum_congr rfl fun p _ => ?_
  exact congrArg₂ (fun u v : EReal => u * v) ((lo_slice (gFrames g) b t p o).trans (gFrames_apply g b _ _ o)) ((w_prev (wReal w ws) p d o).trans (wReal_apply w ws _ d o))

theorem dxNext_apply (b : Fin 4) (t : Fin 2047) (d : Fin 1536) : (dxNext g w sc ws (ix3 b t d) : EReal)
    = (∑ o : Fin 768, ∑ p : Fin 4, (g (ix3 b (⟨8 * (t.val + 1) + p.val, by omega⟩ : Fin 16384) o) : EReal) * (w (ix3 (⟨12 + p.val, by omega⟩ : Fin 16) d o) * ws (ix1 o)))
      * sc (ix2 b (⟨t.val + 1, by omega⟩ : Fin 2048)) := by
  refine congrArg₂ (fun u v : EReal => u * v) ((RefDots.dot_taps (φ₁ := .bf16) (φ₂ := .bf16) dot_S4x2047x4x768_S4x1536x768_S4x2047x1536_32_20_01_1_n_n.wf none _ _ b t d).trans ?_)
    ((sc_dx' _ b t d).trans (sc_last sc b t))
  refine Finset.sum_congr rfl fun o _ => Finset.sum_congr rfl fun p _ => ?_
  exact congrArg₂ (fun u v : EReal => u * v) ((hi_slice (gFrames g) b t p o).trans (gFrames_apply g b _ _ o)) ((w_next (wReal w ws) p d o).trans (wReal_apply w ws _ d o))

/-- Two row updates added to an array, at an entry. -/
theorem two_adds (cur : FVec Ideal S4x2048x1536 .f32) (prev next : FVec Ideal S4x2047x1536 .f32) (b : Fin 4) (t : Fin 2048) (d : Fin 1536) :
    (Host.scatter scatter_S4x2048x1536_S1_S4x2047x1536_012_n_1_0 (FloatOps.addf (F := Ideal) (φ := .f32))
      (Host.scatter scatter_S4x2048x1536_S1_S4x2047x1536_012_n_1_0 (FloatOps.addf (F := Ideal) (φ := .f32)) cur
        (broadcastInDim S1 ![] bcast_S_S1 (constantI S_ 32 1#32)) prev)
      (broadcastInDim S1 ![] bcast_S_S1 (constantI S_ 32 0#32)) next : S4x2048x1536.Idx → EReal) (ix3 b t d)
    = ((cur (ix3 b t d) : EReal) + (if h : 1 ≤ t.val then (prev (ix3 b (⟨t.val - 1, by omega⟩ : Fin 2047) d) : EReal) else 0))
      + (if h : t.val < 2047 then (next (ix3 b (⟨t.val, h⟩ : Fin 2047) d) : EReal) else 0) := by
  have h₀ := RowAdd.scatter_rows (α := Ideal .f32) scatter_S4x2048x1536_S1_S4x2047x1536_012_n_1_0 rfl rfl rfl FloatOps.addf cur
    (broadcastInDim S1 ![] bcast_S_S1 (constantI S_ 32 1#32)) prev 1 (fun _ => rfl) b t d
  have h₁ := RowAdd.scatter_rows (α := Ideal .f32) scatter_S4x2048x1536_S1_S4x2047x1536_012_n_1_0 rfl rfl rfl FloatOps.addf
    (Host.scatter scatter_S4x2048x1536_S1_S4x2047x1536_012_n_1_0 FloatOps.addf cur (broadcastInDim S1 ![] bcast_S_S1 (constantI S_ 32 1#32)) prev)
    (broadcastInDim S1 ![] bcast_S_S1 (constantI S_ 32 0#32)) next 0 (fun _ => rfl) b t d
  refine h₁.trans ?_
  rw [h₀]
  clear h₀ h₁
  by_cases h : t.val < 2047
  · rw [dif_pos (show 0 ≤ t.val ∧ t.val - 0 < 2047 from ⟨Nat.zero_le _, h⟩), dif_pos h]
    by_cases h' : 1 ≤ t.val
    · rw [dif_pos (show 1 ≤ t.val ∧ t.val - 1 < 2047 from ⟨h', by omega⟩), dif_pos h']; rfl
    · rw [dif_neg (fun h'' => h' h''.1), dif_neg h', add_zero]; rfl
  · rw [dif_neg (show ¬ (0 ≤ t.val ∧ t.val - 0 < 2047) from fun h' => h h'.2), dif_neg h, add_zero]
    by_cases h' : 1 ≤ t.val
    · rw [dif_pos (show 1 ≤ t.val ∧ t.val - 1 < 2047 from ⟨h', by omega⟩), dif_pos h']; rfl
    · rw [dif_neg (fun h'' => h' h''.1), dif_neg h', add_zero]

/-- Narrowing keeps the value. -/
theorem trunc_apply (v : FVec Ideal S4x2048x1536 .f32) (i : S4x2048x1536.Idx) : (truncf FTy.bf16 v bitsLt_bf16_f32 i : EReal) = v i := rfl

/-- dx: a frame's own part, then the frame before's, then the frame after's. -/
theorem refDx_apply (b : Fin 4) (t : Fin 2048) (d : Fin 1536) : (refDx g w sc ws (ix3 b t d) : EReal)
    = (dxCur g w sc ws (ix3 b t d) + (if h : 1 ≤ t.val then (dxPrev g w sc ws (ix3 b (⟨t.val - 1, by omega⟩ : Fin 2047) d) : EReal) else 0))
      + (if h : t.val < 2047 then (dxNext g w sc ws (ix3 b (⟨t.val, h⟩ : Fin 2047) d) : EReal) else 0) := by
  unfold refDx
  generalize dxCur g w sc ws = cur
  generalize dxPrev g w sc ws = prev
  generalize dxNext g w sc ws = next
  exact (trunc_apply _ _).trans (two_adds cur prev next b t d)

theorem dwCur_apply (p : Fin 8) (d : Fin 1536) (o : Fin 768) : (dwCur x g sc (ix3 p d o) : EReal)
    = ∑ b : Fin 4, ∑ t : Fin 2048, ((g (ix3 b (⟨8 * t.val + p.val, by omega⟩ : Fin 16384) o) : EReal) * sc (ix2 b t)) * x (ix3 b t d) := by
  refine (transpose_ix3_021_apply _ transposes_S8x768x1536_S8x1536x768_0_2_1 p d o).trans ?_
  refine (RefDots.dot_frames (φ₁ := .bf16) (φ₂ := .bf16) dot_S4x2048x8x768_S4x2048x1536_S8x768x1536_01_01_23_2_n_n.wf none _ _ p o d).trans ?_
  refine Finset.sum_congr rfl fun b _ => Finset.sum_congr rfl fun t _ => ?_
  exact congrArg₂ (fun u v : EReal => u * v) (gReal_apply g sc b t p o) rfl

theorem dwPrev_apply (p : Fin 4) (d : Fin 1536) (o : Fin 768) : (dwPrev x g sc (ix3 p d o) : EReal)
    = ∑ b : Fin 4, ∑ t : Fin 2047, ((g (ix3 b (⟨8 * t.val + (4 + p.val), by omega⟩ : Fin 16384) o) : EReal) * sc (ix2 b (⟨t.val, by omega⟩ : Fin 2048)))
      * x (ix3 b (⟨t.val + 1, by omega⟩ : Fin 2048) d) := by
  refine (transpose_ix3_021_apply _ transposes_S4x768x1536_S4x1536x768_0_2_1 p d o).trans ?_
  refine (RefDots.dot_frames (φ₁ := .bf16) (φ₂ := .bf16) dot_S4x2047x4x768_S4x2047x1536_S4x768x1536_01_01_23_2_n_n.wf none _ _ p o d).trans ?_
  refine Finset.sum_congr rfl fun b _ => Finset.sum_congr rfl fun t _ => ?_
  exact congrArg₂ (fun u v : EReal => u * v) ((lo_slice (gReal g sc) b t p o).trans (gReal_apply g sc b _ _ o)) (x_last x b t d)

theorem dwNext_apply (p : Fin 4) (d : Fin 1536) (o : Fin 768) : (dwNext x g sc (ix3 p d o) : EReal)
    = ∑ b : Fin 4, ∑ t : Fin 2047, ((g (ix3 b (⟨8 * (t.val + 1) + p.val, by omega⟩ : Fin 16384) o) : EReal) * sc (ix2 b (⟨t.val + 1, by omega⟩ : Fin 2048)))
      * x (ix3 b (⟨t.val, by omega⟩ : Fin 2048) d) := by
  refine (transpose_ix3_021_apply _ transposes_S4x768x1536_S4x1536x768_0_2_1 p d o).trans ?_
  refine (RefDots.dot_frames (φ₁ := .bf16) (φ₂ := .bf16) dot_S4x2047x4x768_S4x2047x1536_S4x768x1536_01_01_23_2_n_n.wf none _ _ p o d).trans ?_
  refine Finset.sum_congr rfl fun b _ => Finset.sum_congr rfl fun t _ => ?_
  exact congrArg₂ (fun u v : EReal => u * v) ((hi_slice (gReal g sc) b t p o).trans (gReal_apply g sc b _ _ o)) (x_first x b t d)

end Cert.ReferenceIdeal.Val

end
-- ==== Proof.Sums.lean ====
/-
  Sums of extended reals: a finite factor that is not negative comes out of a sum; sixteen taps are four, eight and four;
  the frames of the flattened batch are the frames of each sequence.
-/
module

public import Mathlib.Data.EReal.Operations
public import Mathlib.Algebra.BigOperators.Fin
public import Mathlib.Data.EReal.Inv
public import Mathlib.Logic.Equiv.Fin.Basic
public import Mathlib.Algebra.BigOperators.Ring.Finset

@[expose] public section

namespace Cert.Sums

open scoped BigOperators

/-- A finite factor that is not negative comes out of a sum. -/
theorem mul_sum {ι : Type*} (S : Finset ι) (s : EReal) (h0 : 0 ≤ s) (ht : s ≠ ⊤) (f : ι → EReal) : ∑ i ∈ S, s * f i = s * ∑ i ∈ S, f i := by
  classical
  induction S using Finset.induction_on with
  | empty => simp
  | insert a S ha ih => rw [Finset.sum_insert ha, Finset.sum_insert ha, ih, EReal.left_distrib_of_nonneg_of_ne_top h0 ht]

/-- One group of taps: the frame's scale inside every product, or once outside the sum. -/
theorem group {P O : ℕ} (s : EReal) (h0 : 0 ≤ s) (ht : s ≠ ⊤) (g w : Fin P → Fin O → EReal) (ws : Fin O → EReal) :
    ∑ p : Fin P, ∑ o : Fin O, ((g p o * s) * ws o) * w p o = (∑ o : Fin O, ∑ p : Fin P, g p o * (w p o * ws o)) * s := by
  rw [Finset.sum_comm, mul_comm _ s, ← mul_sum _ s h0 ht]
  refine Finset.sum_congr rfl fun o _ => ?_
  rw [← mul_sum _ s h0 ht]
  refine Finset.sum_congr rfl fun p _ => ?_
  rw [mul_comm (g p o) s, mul_assoc s, mul_assoc s, mul_comm (w p o) (ws o), mul_assoc (g p o)]

/-- A group whose scale is zero gives nothing. -/
theorem group_zero {P O : ℕ} (g w : Fin P → Fin O → EReal) (ws : Fin O → EReal) :
    ∑ p : Fin P, ∑ o : Fin O, ((g p o * 0) * ws o) * w p o = 0 :=
  Finset.sum_eq_zero fun p _ => Finset.sum_eq_zero fun o _ => by rw [mul_zero, zero_mul, zero_mul]

/-- Sixteen taps are four, eight and four. -/
theorem sum16 (f : Fin 16 → EReal) : ∑ k : Fin 16, f k
    = (∑ p : Fin 8, f ⟨4 + p.val, by omega⟩ + ∑ p : Fin 4, f ⟨p.val, by omega⟩) + ∑ p : Fin 4, f ⟨12 + p.val, by omega⟩ := by
  have h₁ := Fin.sum_univ_add (a := 12) (b := 4) (f := f)
  have h₂ := Fin.sum_univ_add (a := 4) (b := 8) (f := fun i : Fin 12 => f (Fin.castAdd 4 i))
  refine h₁.trans (congrArg₂ (fun u v : EReal => u + v) (h₂.trans ?_) (Finset.sum_congr rfl fun p _ => rfl))
  rw [add_comm]
  exact congrArg₂ (fun u v : EReal => u + v) (Finset.sum_congr rfl fun p _ => rfl) (Finset.sum_congr rfl fun p _ => rfl)

/-- The flattened batch's frames, sequence by sequence. -/
theorem sum_flat (f : Fin 8192 → EReal) : ∑ n : Fin 8192, f n = ∑ b : Fin 4, ∑ t : Fin 2048, f ⟨2048 * b.val + t.val, by omega⟩ := by
  have h := Equiv.sum_comp (finProdFinEquiv (m := 4) (n := 2048)) f
  rw [Fintype.sum_prod_type] at h
  refine h.symm.trans (Finset.sum_congr rfl fun b _ => Finset.sum_congr rfl fun t _ => congrArg f (Fin.ext ?_))
  show t.val + 2048 * b.val = 2048 * b.val + t.val
  omega

/-- A sum whose first term is zero. -/
theorem sum_tail (f : Fin 2048 → EReal) (h : f 0 = 0) : ∑ t : Fin 2048, f t = ∑ u : Fin 2047, f ⟨u.val + 1, by omega⟩ := by
  rw [Fin.sum_univ_succ (n := 2047), h, zero_add]
  exact Finset.sum_congr rfl fun u _ => rfl

/-- A sum whose last term is zero. -/
theorem sum_init (f : Fin 2048 → EReal) (h : f ⟨2047, by omega⟩ = 0) : ∑ t : Fin 2048, f t = ∑ u : Fin 2047, f ⟨u.val, by omega⟩ := by
  rw [Fin.sum_univ_castSucc (n := 2047), show f (Fin.last 2047) = 0 from h, add_zero]
  exact Finset.sum_congr rfl fun u _ => rfl

end Cert.Sums
-- ==== Proof.Equation.lean ====
/-
  The kernel's two results are the reference's, at the extended reals.
-/
module

public import proofs.«01_k».proof.Proof.KernelRun
public import proofs.«01_k».proof.Proof.RefValue
public import proofs.«01_k».proof.Proof.Sums

@[expose] public section

set_option maxRecDepth 16384

noncomputable section

namespace Cert.Equation

open Cert.KernelIdeal Cert.KernelIdeal.Val
open Cert.ReferenceIdeal.Val (refDx refDw dxCur dxPrev dxNext dwCur dwPrev dwNext refDx_apply dxCur_apply dxPrev_apply dxNext_apply dwCur_apply dwPrev_apply dwNext_apply
  cat3_prev cat3_cur cat3_next)
open Cert.ReferenceIdeal.Gen (k0_pay1 k0_pay2)
open Idealize.ShloMosaic hiding ix1 ix2 ix3 ix4
open Idealize.ShloMosaic.ValueIdx
open scoped BigOperators

/-- The code at padded position `s`, as a number: four zeros before the sequence, zeros after it. -/
def gP (dy : IVec S4x16384x768 8) (b : Fin 4) (s : ℕ) (o : Fin 768) : EReal := FloatOps.ofBits (F := Ideal) .fp8e5m2 (gByte dy b s o)

/-- Inside the sequence it is the reference's decoded code. -/
theorem gP_eq (dy : IVec S4x16384x768 8) (b : Fin 4) (s : ℕ) (r : Fin 16384) (o : Fin 768) (h : s = r.val + 4) :
    gP dy b s o = k0_pay1 (F := Ideal) dy (ix3 b r o) := by
  subst h
  have e : gByte dy b (r.val + 4) o = dy (ix3 b r o) := by
    unfold gByte
    rw [dif_pos (show 4 ≤ r.val + 4 ∧ r.val + 4 - 4 < 16384 from ⟨by omega, by omega⟩)]
    exact congrArg (fun q : Fin 16384 => dy (ix3 b q o)) (Fin.ext (Nat.add_sub_cancel _ _))
  unfold gP
  rw [e]
  rfl

/-- Plane `k` of the codes at frame `t` of sequence `b` is padded position `8 t + k`. -/
theorem gam_flat (dy : IVec S4x16384x768 8) (k : Fin 16) (b : Fin 4) (t : Fin 2048) (o : Fin 768) :
    (gamG (F := Ideal) dy (ix3 k (flat b t) o) : EReal) = gP dy b (8 * t.val + k.val) o := by
  have e : ∀ (b' : Fin 4) (s s' : ℕ), b' = b → s = s' → FloatOps.ofBits (F := Ideal) .fp8e5m2 (gByte dy b' s o) = FloatOps.ofBits (F := Ideal) .fp8e5m2 (gByte dy b s' o) := by
    intro b' s s' h₀ h₁
    rw [h₀, h₁]
  refine e _ _ _ (Fin.ext ?_) ?_
  · show (2048 * b.val + t.val) / 2048 = b.val
    omega
  · show 8 * ((2048 * b.val + t.val) % 2048) + k.val = 8 * t.val + k.val
    omega

/-- The transposed input at a frame. -/
theorem xt_flat (x : Vec Ideal S4x2048x1536 .bf16) (d : Fin 1536) (b : Fin 4) (t : Fin 2048) :
    (xtG (F := Ideal) x (ix2 d (flat b t)) : EReal) = x (ix3 b t d) := by
  have e : ∀ (b' : Fin 4) (t' : Fin 2048), b' = b → t' = t → x (ix3 b' t' d) = x (ix3 b t d) := by
    intro b' t' h₀ h₁
    rw [h₀, h₁]
  refine e _ _ (Fin.ext ?_) (Fin.ext ?_)
  · show (2048 * b.val + t.val) / 2048 = b.val
    omega
  · show (2048 * b.val + t.val) % 2048 = t.val
    omega

section Sig
variable (sc : FVec Ideal S4x2048 .f32) (b : Fin 4)

theorem sig0_first (t : Fin 2048) (h : t.val = 0) : (sigHost (F := Ideal) sc (ix2 (0 : Fin 3) (flat b t)) : EReal) = 0 :=
  (sigHost_apply (F := Ideal) sc 0 b t).trans ((sigPrev_zero (F := Ideal) sc b t h).trans Ideal.ofBits_zero_f32)
theorem sig0 (t t' : Fin 2048) (h : t.val = t'.val + 1) : (sigHost (F := Ideal) sc (ix2 (0 : Fin 3) (flat b t)) : EReal) = sc (ix2 b t') :=
  (sigHost_apply (F := Ideal) sc 0 b t).trans (sigPrev_succ (F := Ideal) sc b t t' h)
theorem sig1 (t : Fin 2048) : (sigHost (F := Ideal) sc (ix2 (1 : Fin 3) (flat b t)) : EReal) = sc (ix2 b t) :=
  sigHost_apply (F := Ideal) sc 1 b t
theorem sig2_last (t : Fin 2048) (h : t.val = 2047) : (sigHost (F := Ideal) sc (ix2 (2 : Fin 3) (flat b t)) : EReal) = 0 :=
  (sigHost_apply (F := Ideal) sc 2 b t).trans ((sigNext_last (F := Ideal) sc b t h).trans Ideal.ofBits_zero_f32)
theorem sig2 (t t' : Fin 2048) (h : t'.val = t.val + 1) : (sigHost (F := Ideal) sc (ix2 (2 : Fin 3) (flat b t)) : EReal) = sc (ix2 b t') :=
  (sigHost_apply (F := Ideal) sc 2 b t).trans (sigNext_succ (F := Ideal) sc b t t' h)

end Sig

section Dx
variable (dy : IVec S4x16384x768 8) (sc : FVec Ideal S4x2048 .f32) (ws : FVec Ideal S768 .f32) (w : FVec Ideal S16x1536x768 .fp8e4m3)

/-- One product of the kernel's dx. -/
def dxTerm (b : Fin 4) (t : Fin 2048) (d : Fin 1536) (k : Fin 16) (o : Fin 768) : EReal :=
  ((gP dy b (8 * t.val + k.val) o * sigHost (F := Ideal) sc (ix2 (⟨(k.val + 4) / 8, by omega⟩ : Fin 3) (flat b t))) * ws (ix1 o)) * w (ix3 k d o)

theorem kDx_apply (b : Fin 4) (t : Fin 2048) (d : Fin 1536) :
    kDx dy sc ws w (ix3 b t d) = ∑ k : Fin 16, ∑ o : Fin 768, dxTerm dy sc ws w b t d k o := by
  unfold kDx dxG
  refine Finset.sum_congr rfl fun k _ => Finset.sum_congr rfl fun o _ => ?_
  exact congrArg₂ (fun u v : EReal => (u * v) * w (ix3 k d o))
    (congrArg₂ (fun u v : EReal => u * v) (gam_flat dy k b t o) (sigT_apply (F := Ideal) sc (flat b t) (⟨(k.val + 4) / 8, by omega⟩ : Fin 3)))
    (ws1_apply (F := Ideal) ws (0 : Fin 1) o)

/-- A product where the scale's row and value are known. -/
theorem dxTerm_eq (b : Fin 4) (t : Fin 2048) (d : Fin 1536) (k : Fin 16) (o : Fin 768) (j : Fin 3) (hj : (k.val + 4) / 8 = j.val) (s : EReal)
    (hs : sigHost (F := Ideal) sc (ix2 j (flat b t)) = s) :
    dxTerm dy sc ws w b t d k o = ((gP dy b (8 * t.val + k.val) o * s) * ws (ix1 o)) * w (ix3 k d o) := by
  have e : (⟨(k.val + 4) / 8, by omega⟩ : Fin 3) = j := Fin.ext hj
  unfold dxTerm
  rw [e, hs]

/-- The eight taps of the frame's own codes. -/
theorem dx_cur (hsc : ∀ i, (0 : EReal) ≤ sc i ∧ (sc i : EReal) ≠ ⊤) (b : Fin 4) (t : Fin 2048) (d : Fin 1536) :
    ∑ p : Fin 8, ∑ o : Fin 768, dxTerm dy sc ws w b t d ⟨4 + p.val, by omega⟩ o
      = dxCur (F := Ideal) (k0_pay1 dy) (k0_pay2 w) sc ws (ix3 b t d) := by
  refine Eq.trans ?_ (dxCur_apply _ _ sc ws b t d).symm
  refine Eq.trans ?_ (Sums.group (sc (ix2 b t)) (hsc _).1 (hsc _).2
    (fun (p : Fin 8) (o : Fin 768) => (k0_pay1 (F := Ideal) dy (ix3 b (⟨8 * t.val + p.val, by omega⟩ : Fin 16384) o) : EReal))
    (fun (p : Fin 8) (o : Fin 768) => (k0_pay2 (F := Ideal) w (ix3 (⟨4 + p.val, by omega⟩ : Fin 16) d o) : EReal)) (fun o => ws (ix1 o)))
  refine Finset.sum_congr rfl fun p _ => Finset.sum_congr rfl fun o _ => ?_
  rw [dxTerm_eq dy sc ws w b t d _ o 1 (by show (4 + p.val + 4) / 8 = 1; omega) (sc (ix2 b t)) (sig1 sc b t),
    gP_eq dy b _ (⟨8 * t.val + p.val, by omega⟩ : Fin 16384) o (by show 8 * t.val + (4 + p.val) = 8 * t.val + p.val + 4; omega)]
  rfl

/-- The four taps of the frame before's codes. -/
theorem dx_prev (hsc : ∀ i, (0 : EReal) ≤ sc i ∧ (sc i : EReal) ≠ ⊤) (b : Fin 4) (t : Fin 2048) (d : Fin 1536) :
    ∑ p : Fin 4, ∑ o : Fin 768, dxTerm dy sc ws w b t d ⟨p.val, by omega⟩ o
      = if h : 1 ≤ t.val then (dxPrev (F := Ideal) (k0_pay1 dy) (k0_pay2 w) sc ws (ix3 b (⟨t.val - 1, by omega⟩ : Fin 2047) d) : EReal) else 0 := by
  by_cases h : 1 ≤ t.val
  · rw [dif_pos h]
    refine Eq.trans ?_ (dxPrev_apply _ _ sc ws b (⟨t.val - 1, by omega⟩ : Fin 2047) d).symm
    refine Eq.trans ?_ (Sums.group (sc (ix2 b (⟨t.val - 1, by omega⟩ : Fin 2048))) (hsc _).1 (hsc _).2
      (fun (p : Fin 4) (o : Fin 768) => (k0_pay1 (F := Ideal) dy (ix3 b (⟨8 * (t.val - 1) + (4 + p.val), by omega⟩ : Fin 16384) o) : EReal))
      (fun (p : Fin 4) (o : Fin 768) => (k0_pay2 (F := Ideal) w (ix3 (⟨p.val, by omega⟩ : Fin 16) d o) : EReal)) (fun o => ws (ix1 o)))
    refine Finset.sum_congr rfl fun p _ => Finset.sum_congr rfl fun o _ => ?_
    rw [dxTerm_eq dy sc ws w b t d _ o 0 (by show (p.val + 4) / 8 = 0; omega) (sc (ix2 b (⟨t.val - 1, by omega⟩ : Fin 2048)))
        (sig0 sc b t _ (by show t.val = t.val - 1 + 1; omega)),
      gP_eq dy b _ (⟨8 * (t.val - 1) + (4 + p.val), by omega⟩ : Fin 16384) o (by show 8 * t.val + p.val = 8 * (t.val - 1) + (4 + p.val) + 4; omega)]
    rfl
  · rw [dif_neg h]
    refine Eq.trans ?_ (Sums.group_zero (fun (p : Fin 4) (o : Fin 768) => gP dy b (8 * t.val + p.val) o)
      (fun (p : Fin 4) (o : Fin 768) => (w (ix3 (⟨p.val, by omega⟩ : Fin 16) d o) : EReal)) (fun o => ws (ix1 o)))
    refine Finset.sum_congr rfl fun p _ => Finset.sum_congr rfl fun o _ => ?_
    exact dxTerm_eq dy sc ws w b t d _ o 0 (by show (p.val + 4) / 8 = 0; omega) 0
        (sig0_first sc b t (by omega))

/-- The four taps of the frame after's codes. -/
theorem dx_next (hsc : ∀ i, (0 : EReal) ≤ sc i ∧ (sc i : EReal) ≠ ⊤) (b : Fin 4) (t : Fin 2048) (d : Fin 1536) :
    ∑ p : Fin 4, ∑ o : Fin 768, dxTerm dy sc ws w b t d ⟨12 + p.val, by omega⟩ o
      = if h : t.val < 2047 then (dxNext (F := Ideal) (k0_pay1 dy) (k0_pay2 w) sc ws (ix3 b (⟨t.val, h⟩ : Fin 2047) d) : EReal) else 0 := by
  by_cases h : t.val < 2047
  · rw [dif_pos h]
    refine Eq.trans ?_ (dxNext_apply _ _ sc ws b (⟨t.val, h⟩ : Fin 2047) d).symm
    refine Eq.trans ?_ (Sums.group (sc (ix2 b (⟨t.val + 1, by omega⟩ : Fin 2048))) (hsc _).1 (hsc _).2
      (fun (p : Fin 4) (o : Fin 768) => (k0_pay1 (F := Ideal) dy (ix3 b (⟨8 * (t.val + 1) + p.val, by omega⟩ : Fin 16384) o) : EReal))
      (fun (p : Fin 4) (o : Fin 768) => (k0_pay2 (F := Ideal) w (ix3 (⟨12 + p.val, by omega⟩ : Fin 16) d o) : EReal)) (fun o => ws (ix1 o)))
    refine Finset.sum_congr rfl fun p _ => Finset.sum_congr rfl fun o _ => ?_
    rw [dxTerm_eq dy sc ws w b t d _ o 2 (by show (12 + p.val + 4) / 8 = 2; omega) (sc (ix2 b (⟨t.val + 1, by omega⟩ : Fin 2048)))
        (sig2 sc b t _ rfl),
      gP_eq dy b _ (⟨8 * (t.val + 1) + p.val, by omega⟩ : Fin 16384) o (by show 8 * t.val + (12 + p.val) = 8 * (t.val + 1) + p.val + 4; omega)]
    rfl
  · rw [dif_neg h]
    refine Eq.trans ?_ (Sums.group_zero (fun (p : Fin 4) (o : Fin 768) => gP dy b (8 * t.val + (12 + p.val)) o)
      (fun (p : Fin 4) (o : Fin 768) => (w (ix3 (⟨12 + p.val, by omega⟩ : Fin 16) d o) : EReal)) (fun o => ws (ix1 o)))
    refine Finset.sum_congr rfl fun p _ => Finset.sum_congr rfl fun o _ => ?_
    exact dxTerm_eq dy sc ws w b t d _ o 2 (by show (12 + p.val + 4) / 8 = 2; omega) 0
        (sig2_last sc b t (by omega))

/-- **dx: the kernel's is the reference's.** -/
theorem dx_eq (hsc : ∀ i, (0 : EReal) ≤ sc i ∧ (sc i : EReal) ≠ ⊤) :
    kDx dy sc ws w = refDx (F := Ideal) (k0_pay1 dy) (k0_pay2 w) sc ws := by
  funext y
  obtain ⟨b, t, d, rfl⟩ : ∃ (b : Fin 4) (t : Fin 2048) (d : Fin 1536), y = ix3 b t d := ⟨y 0, y 1, y 2, ValueIdx.eq_ix3 y⟩
  refine (kDx_apply dy sc ws w b t d).trans ((Sums.sum16 _).trans ?_)
  refine Eq.trans ?_ (refDx_apply _ _ sc ws b t d).symm
  rw [dx_cur dy sc ws w hsc b t d, dx_prev dy sc ws w hsc b t d, dx_next dy sc ws w hsc b t d]

end Dx

section Dw
variable (x : FVec Ideal S4x2048x1536 .bf16) (dy : IVec S4x16384x768 8) (sc : FVec Ideal S4x2048 .f32)

/-- One product of the kernel's dw. -/
def dwProd (k : Fin 16) (d : Fin 1536) (o : Fin 768) (b : Fin 4) (t : Fin 2048) : EReal :=
  (x (ix3 b t d) * sigHost (F := Ideal) sc (ix2 (sigRow k.val) (flat b t))) * gP dy b (8 * t.val + k.val) o

theorem kDw_apply (k : Fin 16) (d : Fin 1536) (o : Fin 768) :
    kDw x dy sc (ix3 k d o) = ∑ b : Fin 4, ∑ t : Fin 2048, dwProd x dy sc k d o b t := by
  unfold kDw dwG
  refine (Sums.sum_flat _).trans (Finset.sum_congr rfl fun b _ => Finset.sum_congr rfl fun t _ => ?_)
  exact congrArg₂ (fun u v : EReal => (u * sigHost (F := Ideal) sc (ix2 (sigRow k.val) (flat b t))) * v) (xt_flat x d b t) (gam_flat dy k b t o)

/-- A product where the scale and the code are known, in the reference's order. -/
theorem dwProd_eq (k : Fin 16) (d : Fin 1536) (o : Fin 768) (b : Fin 4) (t : Fin 2048) (j : Fin 3) (hj : sigRow k.val = j) (s : EReal)
    (hs : sigHost (F := Ideal) sc (ix2 j (flat b t)) = s) (r : Fin 16384) (hr : 8 * t.val + k.val = r.val + 4) :
    dwProd x dy sc k d o b t = ((k0_pay1 (F := Ideal) dy (ix3 b r o) : EReal) * s) * x (ix3 b t d) := by
  unfold dwProd
  rw [hj, hs, gP_eq dy b _ r o hr, mul_assoc _ s, mul_comm s, mul_comm]

/-- A product whose scale is zero. -/
theorem dwProd_zero (k : Fin 16) (d : Fin 1536) (o : Fin 768) (b : Fin 4) (t : Fin 2048) (j : Fin 3) (hj : sigRow k.val = j)
    (hs : sigHost (F := Ideal) sc (ix2 j (flat b t)) = (0 : EReal)) : dwProd x dy sc k d o b t = 0 := by
  unfold dwProd
  rw [hj, hs, mul_zero, zero_mul]

/-- **dw: the kernel's is the reference's.** -/
theorem dw_eq : kDw x dy sc = refDw (F := Ideal) x (k0_pay1 dy) sc := by
  funext y
  obtain ⟨k, d, o, rfl⟩ : ∃ (k : Fin 16) (d : Fin 1536) (o : Fin 768), y = ix3 k d o := ⟨y 0, y 1, y 2, ValueIdx.eq_ix3 y⟩
  refine (kDw_apply x dy sc k d o).trans ?_
  unfold refDw
  by_cases h₀ : k.val < 4
  · refine Eq.trans ?_ ((cat3_prev _ _ _ k (⟨k.val, h₀⟩ : Fin 4) rfl d o).trans (dwPrev_apply x _ sc _ d o)).symm
    have hj : sigRow k.val = 0 := if_pos h₀
    refine Finset.sum_congr rfl fun b _ => ?_
    refine (Sums.sum_tail _ (dwProd_zero x dy sc k d o b (0 : Fin 2048) 0 hj (sig0_first sc b 0 rfl))).trans ?_
    refine Finset.sum_congr rfl fun u _ => ?_
    exact dwProd_eq x dy sc k d o b (⟨u.val + 1, by omega⟩ : Fin 2048) 0 hj _ (sig0 sc b (⟨u.val + 1, by omega⟩ : Fin 2048) (⟨u.val, by omega⟩ : Fin 2048) rfl) _
      (by show 8 * (u.val + 1) + k.val = 8 * u.val + (4 + k.val) + 4; omega)
  · by_cases h₁ : k.val < 12
    · refine Eq.trans ?_ ((cat3_cur _ _ _ k (⟨k.val - 4, by omega⟩ : Fin 8) (by show k.val = 4 + (k.val - 4); omega) d o).trans (dwCur_apply x _ sc _ d o)).symm
      have hj : sigRow k.val = 1 := (if_neg h₀).trans (if_pos h₁)
      refine Finset.sum_congr rfl fun b _ => Finset.sum_congr rfl fun t _ => ?_
      exact dwProd_eq x dy sc k d o b t 1 hj _ (sig1 sc b t) _ (by show 8 * t.val + k.val = 8 * t.val + (k.val - 4) + 4; omega)
    · refine Eq.trans ?_ ((cat3_next _ _ _ k (⟨k.val - 12, by omega⟩ : Fin 4) (by show k.val = 12 + (k.val - 12); omega) d o).trans (dwNext_apply x _ sc _ d o)).symm
      have hj : sigRow k.val = 2 := (if_neg h₀).trans (if_neg h₁)
      refine Finset.sum_congr rfl fun b _ => ?_
      refine (Sums.sum_init _ (dwProd_zero x dy sc k d o b (⟨2047, by omega⟩ : Fin 2048) 2 hj (sig2_last sc b (⟨2047, by omega⟩ : Fin 2048) rfl))).trans ?_
      refine Finset.sum_congr rfl fun u _ => ?_
      exact dwProd_eq x dy sc k d o b (⟨u.val, by omega⟩ : Fin 2048) 2 hj _ (sig2 sc b (⟨u.val, by omega⟩ : Fin 2048) (⟨u.val + 1, by omega⟩ : Fin 2048) rfl) _
        (by show 8 * u.val + k.val = 8 * (u.val + 1) + (k.val - 12) + 4; omega)

end Dw

end Cert.Equation

end
-- ==== Proof.Pre.lean ====
/-
  What the precondition says of the frames' scales: each is at least zero and below infinity.
-/
module

public import proofs.«01_k».proof.Proof.Gen.Pre_scales_finite
public import Idealize.ShloMosaic.Lib.ReduceAll
public import Idealize.ShloMosaic.Lib.Pointwise.Tactic
public import Idealize.ShloMosaic.PureOps.Ideal.Laws

@[expose] public section

namespace Cert.Pre_scales_finite.Val

open Cert.Pre_scales_finite Cert.Pre_scales_finite.Gen
open Idealize.ShloMosaic

theorem ofBits_inf : (FloatOps.ofBits .f32 0x7F800000#32 : Ideal .f32) = (⊤ : EReal) := by
  show Ideal.ofBits .f32 0x7F800000#32 = ⊤
  simp [Ideal.ofBits, Ideal.ieee]

/-- A scale that meets the precondition is not negative and not infinite. -/
theorem scales (a0 : FVec Ideal S4x2048x1536 .bf16) (a1 : IVec S4x16384x768 8) (a2 : FVec Ideal S4x2048 .f32) (a3 : FVec Ideal S16x1536x768 .fp8e4m3)
    (a4 : FVec Ideal S768 .f32) (h : fn (F := Ideal) a0 a1 a2 a3 a4 = fun _ => 1#1) (i : S4x2048.Idx) :
    (0 : EReal) ≤ a2 i ∧ (a2 i : EReal) ≠ ⊤ := by
  have hj := congrFun h (fun a => a.elim0)
  unfold fn at hj
  dsimp only at hj
  haveI : Subsingleton S_.Idx := ⟨fun x y => funext fun a => a.elim0⟩
  have hi := Host.reduce_andi_all _ _ _ _ _ hj i
  obtain ⟨h0, h1⟩ := IntOp.andi_eq_one.1 hi
  have c0 : Ideal.cmp .oge (a2 i) (Ideal.ofBits .f32 0x00000000#32) = 1#1 := h0
  have c1 : Ideal.cmp .olt (a2 i) (Ideal.ofBits .f32 0x7F800000#32) = 1#1 := h1
  rw [Ideal.ofBits_zero_f32] at c0
  rw [show Ideal.ofBits .f32 0x7F800000#32 = (⊤ : EReal) from ofBits_inf] at c1
  refine ⟨?_, ?_⟩
  · by_contra hn
    simp [Ideal.cmp, hn] at c0
  · intro ht
    simp [Ideal.cmp, ht] at c1

end Cert.Pre_scales_finite.Val
-- ==== Proof.Algebraic.lean ====
/-
  The claim that relates the two programs: from memories with the same arguments that meet the precondition, the kernel and
  the reference both run and end with the same dx and dw.
-/
module

public import proofs.«01_k».proof.Defs
public import proofs.«01_k».proof.Proof.Equation
public import proofs.«01_k».proof.Proof.Pre

@[expose] public section

set_option maxRecDepth 16384

namespace Cert.Algebraic

open Idealize.ShloMosaic Idealize.ShloMosaic.TcCoe Idealize.SL.Sem

theorem algebraic : Cert.algebraic_KernelIdeal_ReferenceIdeal_pre_scales_finite (hKernelIdeal := Cert.KernelIdeal.Gen.facts)
    (hReferenceIdeal := Cert.ReferenceIdeal.Gen.facts) (hPre_scales_finite := Cert.Pre_scales_finite.Gen.facts) := by
  intro m g m' g' hpre hagree
  refine ⟨fun c => Cert.KernelIdeal.Val.kDx (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)),
    fun c => Cert.KernelIdeal.Val.kDw (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m g, ?_⟩
  refine (θ_run Cert.ReferenceIdeal.defs _ _).mono (fun r h c => ?_)
    (θ_run_and (Cert.ReferenceIdeal.Val.run m' g') (Cert.ReferenceIdeal.Gen.unchanged m' g'))
  obtain ⟨hv, hu⟩ := h
  obtain ⟨e0, e1, e2, e3, e4⟩ := hagree c
  refine ⟨(hv c).1.trans ?_, (hv c).2.trans ?_, hu c⟩
  · exact (Cert.ReferenceIdeal.Val.refDx_congr (congrArg Cert.ReferenceIdeal.Gen.k0_pay1 e1) (congrArg Cert.ReferenceIdeal.Gen.k0_pay2 e3) e2 e4).trans
      (Cert.Equation.dx_eq _ _ _ _ fun i => Cert.Pre_scales_finite.Val.scales _ _ _ _ _ (hpre c) i).symm
  · exact (Cert.ReferenceIdeal.Val.refDw_congr e0 (congrArg Cert.ReferenceIdeal.Gen.k0_pay1 e1) e2).trans (Cert.Equation.dw_eq _ _ _).symm

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_scales_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Algebraic.algebraic⟩

end Cert.Proof

end
